-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_usable [hPre_usable : Cert.Pre_usable.Facts] (m : (ℓ : Loc Cert.KernelIdeal.nD Cert.KernelIdeal.τ Cert.KernelIdeal.sig) → Buf (Elt Ideal) ℓ) : Prop :=
  ∀ c : Dev Cert.KernelIdeal.nD,
    (Cert.Pre_usable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_usable [hPre_usable : Cert.Pre_usable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_usable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_usable [hKernelIdeal : Cert.KernelIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_usable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_usable [hReferenceIdeal : Cert.ReferenceIdeal.Facts] [hPre_usable : Cert.Pre_usable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_usable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_usable [hKernelIdeal : Cert.KernelIdeal.Facts] [hReferenceIdeal : Cert.ReferenceIdeal.Facts] [hPre_usable : Cert.Pre_usable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_usable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_usable : Cert.Pre_usable.Facts),
    quiescent_Kernel (hKernel := hKernel)
    ∧ quiescent_KernelIdeal (hKernelIdeal := hKernelIdeal)
    ∧ quiescent_KernelIdeal_pre_usable (hKernelIdeal := hKernelIdeal) (hPre_usable := hPre_usable)
    ∧ quiescent_ReferenceIdeal (hReferenceIdeal := hReferenceIdeal)
    ∧ quiescent_ReferenceIdeal_pre_usable (hReferenceIdeal := hReferenceIdeal) (hPre_usable := hPre_usable)
    ∧ preserves_Kernel_KernelIdeal
    ∧ algebraic_KernelIdeal_ReferenceIdeal_pre_usable (hKernelIdeal := hKernelIdeal) (hReferenceIdeal := hReferenceIdeal) (hPre_usable := hPre_usable)
-- ==== Pre_usable.lean ====
abbrev S8x1152x7168 : Shape := ⟨3, ![8, 1152, 7168]⟩
abbrev S32x7168 : Shape := ⟨2, ![32, 7168]⟩
abbrev S3584x2560 : Shape := ⟨2, ![3584, 2560]⟩
abbrev S56x2560 : Shape := ⟨2, ![56, 2560]⟩
abbrev S_ : Shape := ⟨0, ![]⟩
abbrev S32 : Shape := ⟨1, ![32]⟩

class Facts : Prop where
  bcast_S_S8x1152x7168 : S_.BroadcastsInDim S8x1152x7168 (![] : Fin 0 → Fin S8x1152x7168.rank)
  reducesTo_S8x1152x7168_S_d0_1_2 : S8x1152x7168.ReducesTo [0, 1, 2] S_
  h_S_ : 0 < S_.numel
  bcast_S_S32x7168 : S_.BroadcastsInDim S32x7168 (![] : Fin 0 → Fin S32x7168.rank)
  reducesTo_S32x7168_S32_d1 : S32x7168.ReducesTo [1] S32
  reducesTo_S32_S_d0 : S32.ReducesTo [0] S_

variable [Facts]

def fn {F : FTy → Type} [FloatOps F] (main_arg0 : FVec F S8x1152x7168 .bf16) (main_arg1 : FVec F S32x7168 .f32) (main_arg2 : IVec S3584x2560 8) (main_arg3 : FVec F S56x2560 .bf16) (main_arg4 : IVec S56x2560 8) : IVec S_ 1 :=
  let main_v0 : FVec F S8x1152x7168 .bf16 := Host.absf main_arg0
  let main_cst : FVec F S_ .bf16 := constant S_ .bf16 0x7F80#16
  let main_v1 : FVec F S8x1152x7168 .bf16 := broadcastInDim S8x1152x7168 ![] bcast_S_S8x1152x7168 main_cst
  let main_v2 : IVec S8x1152x7168 1 := cmpf .olt main_v0 main_v1
  let main_c : IVec S_ 1 := constantI S_ 1 1#1
  let main_v3 : IVec S_ 1 := (fun x v => Host.reduce IntOp.andi x v reducesTo_S8x1152x7168_S_d0_1_2 h_S_) main_v2 main_c
  let main_cst_0 : FVec F S_ .f32 := constant S_ .f32 0x00000000#32
  let main_v4 : FVec F S32x7168 .f32 := broadcastInDim S32x7168 ![] bcast_S_S32x7168 main_cst_0
  let main_v5 : IVec S32x7168 1 := cmpf .une main_arg1 main_v4
  let main_c_1 : IVec S_ 1 := constantI S_ 1 0#1
  let main_v6 : IVec S32 1 := (fun x v => Host.reduce IntOp.ori x v reducesTo_S32x7168_S32_d1 h_S_) main_v5 main_c_1
  let main_c_2 : IVec S_ 1 := constantI S_ 1 1#1
  let main_v7 : IVec S_ 1 := (fun x v => Host.reduce IntOp.andi x v reducesTo_S32_S_d0 h_S_) main_v6 main_c_2
  let main_v8 : IVec S_ 1 := andi main_v3 main_v7
  main_v8
-- ==== Kernel.lean ====
abbrev S8x1152x7168 : Shape := ⟨3, ![8, 1152, 7168]⟩
abbrev S32x7168 : Shape := ⟨2, ![32, 7168]⟩
abbrev S3584x2560 : Shape := ⟨2, ![3584, 2560]⟩
abbrev S56x2560 : Shape := ⟨2, ![56, 2560]⟩
abbrev S9216x7168 : Shape := ⟨2, ![9216, 7168]⟩
abbrev S192x7168 : Shape := ⟨2, ![192, 7168]⟩
abbrev S96x7168 : Shape := ⟨2, ![96, 7168]⟩
abbrev S32x32 : Shape := ⟨2, ![32, 32]⟩
abbrev S32 : Shape := ⟨1, ![32]⟩
abbrev S32x1 : Shape := ⟨2, ![32, 1]⟩
abbrev S1x32 : Shape := ⟨2, ![1, 32]⟩
abbrev S9216x2560 : Shape := ⟨2, ![9216, 2560]⟩
abbrev S256x7168 : Shape := ⟨2, ![256, 7168]⟩
abbrev S256x2560 : Shape := ⟨2, ![256, 2560]⟩
abbrev S7168x2560 : Shape := ⟨2, ![7168, 2560]⟩
abbrev S2x3584x256 : Shape := ⟨3, ![2, 3584, 256]⟩
abbrev S2 : Shape := ⟨1, ![2]⟩
abbrev S1 : Shape := ⟨1, ![1]⟩
abbrev S_ : Shape := ⟨0, ![]⟩
abbrev S1x3584x256 : Shape := ⟨3, ![1, 3584, 256]⟩
abbrev S3584x256 : Shape := ⟨2, ![3584, 256]⟩
abbrev S1x64x256 : Shape := ⟨3, ![1, 64, 256]⟩
abbrev S64x256 : Shape := ⟨2, ![64, 256]⟩
abbrev S64x1x256 : Shape := ⟨3, ![64, 1, 256]⟩
abbrev S64x2x256 : Shape := ⟨3, ![64, 2, 256]⟩
abbrev S128x256 : Shape := ⟨2, ![128, 256]⟩
abbrev S1x256 : Shape := ⟨2, ![1, 256]⟩
abbrev S96x256 : Shape := ⟨2, ![96, 256]⟩
abbrev S32x256 : Shape := ⟨2, ![32, 256]⟩
abbrev S256x32 : Shape := ⟨2, ![256, 32]⟩
abbrev S256x192 : Shape := ⟨2, ![256, 192]⟩
abbrev S192x1024 : Shape := ⟨2, ![192, 1024]⟩
abbrev S256x1024 : Shape := ⟨2, ![256, 1024]⟩
abbrev S7168x512 : Shape := ⟨2, ![7168, 512]⟩
abbrev S256x512 : Shape := ⟨2, ![256, 512]⟩
abbrev S8x1152x2560 : Shape := ⟨3, ![8, 1152, 2560]⟩

abbrev nBuf : Space → Nat
  | .hbm => 12
  | .vmem => 16
  | .smem => 0
  | _ => 0

abbrev bufTy : (tb : Table) → Fin (tcTables nBuf tb) → BufTy
  | .hbm, ⟨0, _⟩ => ⟨S8x1152x7168, .bf16⟩
  | .hbm, ⟨1, _⟩ => ⟨S32x7168, .f32⟩
  | .hbm, ⟨2, _⟩ => ⟨S3584x2560, .i8⟩
  | .hbm, ⟨3, _⟩ => ⟨S56x2560, .bf16⟩
  | .hbm, ⟨4, _⟩ => ⟨S56x2560, .i8⟩
  | .hbm, ⟨5, _⟩ => ⟨S9216x7168, .bf16⟩
  | .hbm, ⟨6, _⟩ => ⟨S192x7168, .bf16⟩
  | .hbm, ⟨7, _⟩ => ⟨S96x7168, .bf16⟩
  | .hbm, ⟨8, _⟩ => ⟨S9216x2560, .bf16⟩
  | .hbm, ⟨9, _⟩ => ⟨S9216x7168, .bf16⟩
  | .hbm, ⟨10, _⟩ => ⟨S8x1152x2560, .bf16⟩
  | .hbm, ⟨11, _⟩ => ⟨S8x1152x7168, .bf16⟩
  | .local _ .vmem, ⟨0, _⟩ => ⟨S32x7168, .f32⟩
  | .local _ .vmem, ⟨1, _⟩ => ⟨S192x7168, .bf16⟩
  | .local _ .vmem, ⟨2, _⟩ => ⟨S96x7168, .bf16⟩
  | .local _ .vmem, ⟨3, _⟩ => ⟨S32x32, .f32⟩
  | .local _ .vmem, ⟨4, _⟩ => ⟨S256x7168, .bf16⟩
  | .local _ .vmem, ⟨5, _⟩ => ⟨S256x7168, .bf16⟩
  | .local _ .vmem, ⟨6, _⟩ => ⟨S96x7168, .bf16⟩
  | .local _ .vmem, ⟨7, _⟩ => ⟨S192x7168, .bf16⟩
  | .local _ .vmem, ⟨8, _⟩ => ⟨S56x2560, .bf16⟩
  | .local _ .vmem, ⟨9, _⟩ => ⟨S56x2560, .i8⟩
  | .local _ .vmem, ⟨10, _⟩ => ⟨S256x2560, .bf16⟩
  | .local _ .vmem, ⟨11, _⟩ => ⟨S256x2560, .bf16⟩
  | .local _ .vmem, ⟨12, _⟩ => ⟨S256x7168, .bf16⟩
  | .local _ .vmem, ⟨13, _⟩ => ⟨S256x7168, .bf16⟩
  | .local _ .vmem, ⟨14, _⟩ => ⟨S7168x2560, .bf16⟩
  | .local _ .vmem, ⟨15, _⟩ => ⟨S2x3584x256, .i8⟩
  | _, _ => ⟨S8x1152x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2_0 : Ref sig .tc := ⟨.hbm, 8, rfl⟩
abbrev main_v2_1 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_scratch0 : Ref sig .tc := ⟨.vmem, 14, rfl⟩
abbrev cc1_scratch1 : Ref sig .tc := ⟨.vmem, 15, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem5_1 : DmaSem sig := 10
abbrev cc1_sem6_0 : DmaSem sig := 11
abbrev cc1_sem6_1 : DmaSem sig := 12

abbrev nD : Nat := 1
abbrev τ : Topo := Topo.v7x

variable {F : FTy → Type} [FloatOps F]

abbrev grid0 : Pipeline.Grid := .none

abbrev stage0_0 : Fin 1 → Memref sig .tc .vmem S32x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S192x7168 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![36], ![false]⟩

def k1_cond1 (i : grid1.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k1_t1_loop : Scf.Loop 32 :=
  let c0_i32_86 : BitVec 32 := 0#32
  let c10_i32 : BitVec 32 := 10#32
  let v120 : BitVec 32 := Scalar.addi c0_i32_86 c10_i32
  let c1_i32 : BitVec 32 := 1#32
  ⟨c0_i32_86, v120, c1_i32⟩
def k1_cond2 (k1_t1 : Fin k1_t1_loop.trips) : BitVec 1 :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c1_i32_90 : BitVec 32 := 1#32
  let v124 : BitVec 32 := Scalar.addi v122 c1_i32_90
  let c10_i32_91 : BitVec 32 := 10#32
  let v125 : BitVec 1 := Scalar.cmpi .slt v124 c10_i32_91
  let v126 : BitVec 32 := Scalar.extui v125
  let c0_i32_92 : BitVec 32 := 0#32
  let v127 : BitVec 1 := Scalar.cmpi .ne v126 c0_i32_92
  v127

def k1_off1 (k1_t1 : Fin k1_t1_loop.trips) : Fin 1 → Nat :=
  let c1_i32_358 : BitVec 32 := 1#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1649 : BitVec 32 := Scalar.subi c1_i32_358 v123
  ![v1649.toNat]
def k1_off2 (k1_t1 : Fin k1_t1_loop.trips) : Fin 3 → Nat :=
  let c1_i32_358 : BitVec 32 := 1#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1649 : BitVec 32 := Scalar.subi c1_i32_358 v123
  let c0_i32_360 : BitVec 32 := 0#32
  let c0_i32_361 : BitVec 32 := 0#32
  ![v1649.toNat, 0, 0]
def k1_off3 (k1_t1 : Fin k1_t1_loop.trips) : Fin 2 → Nat :=
  let c0_i32_362 : BitVec 32 := 0#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c1_i32_357 : BitVec 32 := 1#32
  let v1648 : BitVec 32 := Scalar.addi v122 c1_i32_357
  let c256_i32_359 : BitVec 32 := 256#32
  let v1650 : BitVec 32 := Scalar.muli v1648 c256_i32_359
  ![0, v1650.toNat]
def k1_off4 (k1_t1 : Fin k1_t1_loop.trips) : Fin 1 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  ![v123.toNat]
def k1_off5 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let c0_i32_93 : BitVec 32 := 0#32
  let c0_i32_94 : BitVec 32 := 0#32
  ![v123.toNat, 0, 0]
def k1_off6 (k1_t1 : Fin k1_t1_loop.trips) : Fin 2 → Nat :=
  let c0_i32_95 : BitVec 32 := 0#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32 : BitVec 32 := 256#32
  let v128 : BitVec 32 := Scalar.muli v122 c256_i32
  ![0, v128.toNat]
def k1_mult1 (k1_t1 : Fin k1_t1_loop.trips) : BitVec 32 :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  v134
def k1_off7 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v136 : Index := Scalar.indexCast v123
  let c0_97 : Index := 0#32
  let c0_98 : Index := 0#32
  ![v136.toNat, 0, 0]
def k1_off8 (k1_t1 : Fin k1_t1_loop.trips) : Fin 2 → Nat :=
  let c0_99 : Index := 0#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v149 : Index := Scalar.indexCast v135
  ![0, v149.toNat]
def k1_off9 (k1_t1 : Fin k1_t1_loop.trips) : Fin 2 → Nat :=
  let c0_101 : Index := 0#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v159 : Index := Scalar.indexCast v135
  ![0, v159.toNat]
def k1_off10 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v163 : Index := Scalar.indexCast v123
  let c64 : Index := 64#32
  let c0_102 : Index := 0#32
  ![v163.toNat, 64, 0]
def k1_off11 (k1_t1 : Fin k1_t1_loop.trips) : Fin 2 → Nat :=
  let c1 : Index := 1#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v176 : Index := Scalar.indexCast v135
  ![1, v176.toNat]
def k1_off12 (k1_t1 : Fin k1_t1_loop.trips) : Fin 2 → Nat :=
  let c128 : Index := 128#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v186 : Index := Scalar.indexCast v135
  ![128, v186.toNat]
def k1_off13 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v190 : Index := Scalar.indexCast v123
  let c128_106 : Index := 128#32
  let c0_107 : Index := 0#32
  ![v190.toNat, 128, 0]
def k1_off14 (k1_t1 : Fin k1_t1_loop.trips) : Fin 2 → Nat :=
  let c2 : Index := 2#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v203 : Index := Scalar.indexCast v135
  ![2, v203.toNat]
def k1_off15 (k1_t1 : Fin k1_t1_loop.trips) : Fin 2 → Nat :=
  let c256 : Index := 256#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v213 : Index := Scalar.indexCast v135
  ![256, v213.toNat]
def k1_off16 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v217 : Index := Scalar.indexCast v123
  let c192 : Index := 192#32
  let c0_111 : Index := 0#32
  ![v217.toNat, 192, 0]
def k1_off17 (k1_t1 : Fin k1_t1_loop.trips) : Fin 2 → Nat :=
  let c3 : Index := 3#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v230 : Index := Scalar.indexCast v135
  ![3, v230.toNat]
def k1_off18 (k1_t1 : Fin k1_t1_loop.trips) : Fin 2 → Nat :=
  let c384 : Index := 384#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v240 : Index := Scalar.indexCast v135
  ![384, v240.toNat]
def k1_off19 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v244 : Index := Scalar.indexCast v123
  let c256_115 : Index := 256#32
  let c0_116 : Index := 0#32
  ![v244.toNat, 256, 0]
def k1_off20 (k1_t1 : Fin k1_t1_loop.trips) : Fin 2 → Nat :=
  let c4 : Index := 4#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v257 : Index := Scalar.indexCast v135
  ![4, v257.toNat]
def k1_off21 (k1_t1 : Fin k1_t1_loop.trips) : Fin 2 → Nat :=
  let c512_120 : Index := 512#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v267 : Index := Scalar.indexCast v135
  ![512, v267.toNat]
def k1_off22 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v271 : Index := Scalar.indexCast v123
  let c320 : Index := 320#32
  let c0_121 : Index := 0#32
  ![v271.toNat, 320, 0]
def k1_off23 (k1_t1 : Fin k1_t1_loop.trips) : Fin 2 → Nat :=
  let c5 : Index := 5#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v284 : Index := Scalar.indexCast v135
  ![5, v284.toNat]
def k1_off24 (k1_t1 : Fin k1_t1_loop.trips) : Fin 2 → Nat :=
  let c640 : Index := 640#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v294 : Index := Scalar.indexCast v135
  ![640, v294.toNat]
def k1_off25 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v298 : Index := Scalar.indexCast v123
  let c384_125 : Index := 384#32
  let c0_126 : Index := 0#32
  ![v298.toNat, 384, 0]
def k1_off26 (k1_t1 : Fin k1_t1_loop.trips) : Fin 2 → Nat :=
  let c6 : Index := 6#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v311 : Index := Scalar.indexCast v135
  ![6, v311.toNat]
def k1_off27 (k1_t1 : Fin k1_t1_loop.trips) : Fin 2 → Nat :=
  let c768 : Index := 768#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v321 : Index := Scalar.indexCast v135
  ![768, v321.toNat]
def k1_off28 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v325 : Index := Scalar.indexCast v123
  let c448 : Index := 448#32
  let c0_130 : Index := 0#32
  ![v325.toNat, 448, 0]
def k1_off29 (k1_t1 : Fin k1_t1_loop.trips) : Fin 2 → Nat :=
  let c7 : Index := 7#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v338 : Index := Scalar.indexCast v135
  ![7, v338.toNat]
def k1_off30 (k1_t1 : Fin k1_t1_loop.trips) : Fin 2 → Nat :=
  let c896 : Index := 896#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v348 : Index := Scalar.indexCast v135
  ![896, v348.toNat]
def k1_off31 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v352 : Index := Scalar.indexCast v123
  let c512_134 : Index := 512#32
  let c0_135 : Index := 0#32
  ![v352.toNat, 512, 0]
def k1_off32 (k1_t1 : Fin k1_t1_loop.trips) : Fin 2 → Nat :=
  let c8 : Index := 8#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v365 : Index := Scalar.indexCast v135
  ![8, v365.toNat]
def k1_off33 (k1_t1 : Fin k1_t1_loop.trips) : Fin 2 → Nat :=
  let c1024_139 : Index := 1024#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v375 : Index := Scalar.indexCast v135
  ![1024, v375.toNat]
def k1_off34 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v379 : Index := Scalar.indexCast v123
  let c576 : Index := 576#32
  let c0_140 : Index := 0#32
  ![v379.toNat, 576, 0]
def k1_off35 (k1_t1 : Fin k1_t1_loop.trips) : Fin 2 → Nat :=
  let c9 : Index := 9#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v392 : Index := Scalar.indexCast v135
  ![9, v392.toNat]
def k1_off36 (k1_t1 : Fin k1_t1_loop.trips) : Fin 2 → Nat :=
  let c1152 : Index := 1152#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v402 : Index := Scalar.indexCast v135
  ![1152, v402.toNat]
def k1_off37 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v406 : Index := Scalar.indexCast v123
  let c640_144 : Index := 640#32
  let c0_145 : Index := 0#32
  ![v406.toNat, 640, 0]
def k1_off38 (k1_t1 : Fin k1_t1_loop.trips) : Fin 2 → Nat :=
  let c10 : Index := 10#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v419 : Index := Scalar.indexCast v135
  ![10, v419.toNat]
def k1_off39 (k1_t1 : Fin k1_t1_loop.trips) : Fin 2 → Nat :=
  let c1280 : Index := 1280#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v429 : Index := Scalar.indexCast v135
  ![1280, v429.toNat]
def k1_off40 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v433 : Index := Scalar.indexCast v123
  let c704 : Index := 704#32
  let c0_149 : Index := 0#32
  ![v433.toNat, 704, 0]
def k1_off41 (k1_t1 : Fin k1_t1_loop.trips) : Fin 2 → Nat :=
  let c11 : Index := 11#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v446 : Index := Scalar.indexCast v135
  ![11, v446.toNat]
def k1_off42 (k1_t1 : Fin k1_t1_loop.trips) : Fin 2 → Nat :=
  let c1408 : Index := 1408#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v456 : Index := Scalar.indexCast v135
  ![1408, v456.toNat]
def k1_off43 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v460 : Index := Scalar.indexCast v123
  let c768_153 : Index := 768#32
  let c0_154 : Index := 0#32
  ![v460.toNat, 768, 0]
def k1_off44 (k1_t1 : Fin k1_t1_loop.trips) : Fin 2 → Nat :=
  let c12 : Index := 12#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v473 : Index := Scalar.indexCast v135
  ![12, v473.toNat]
def k1_off45 (k1_t1 : Fin k1_t1_loop.trips) : Fin 2 → Nat :=
  let c1536_158 : Index := 1536#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v483 : Index := Scalar.indexCast v135
  ![1536, v483.toNat]
def k1_off46 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v487 : Index := Scalar.indexCast v123
  let c832 : Index := 832#32
  let c0_159 : Index := 0#32
  ![v487.toNat, 832, 0]
def k1_off47 (k1_t1 : Fin k1_t1_loop.trips) : Fin 2 → Nat :=
  let c13 : Index := 13#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v500 : Index := Scalar.indexCast v135
  ![13, v500.toNat]
def k1_off48 (k1_t1 : Fin k1_t1_loop.trips) : Fin 2 → Nat :=
  let c1664 : Index := 1664#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v510 : Index := Scalar.indexCast v135
  ![1664, v510.toNat]
def k1_off49 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v514 : Index := Scalar.indexCast v123
  let c896_163 : Index := 896#32
  let c0_164 : Index := 0#32
  ![v514.toNat, 896, 0]
def k1_off50 (k1_t1 : Fin k1_t1_loop.trips) : Fin 2 → Nat :=
  let c14 : Index := 14#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v527 : Index := Scalar.indexCast v135
  ![14, v527.toNat]
def k1_off51 (k1_t1 : Fin k1_t1_loop.trips) : Fin 2 → Nat :=
  let c1792 : Index := 1792#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v537 : Index := Scalar.indexCast v135
  ![1792, v537.toNat]
def k1_off52 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v541 : Index := Scalar.indexCast v123
  let c960 : Index := 960#32
  let c0_168 : Index := 0#32
  ![v541.toNat, 960, 0]
def k1_off53 (k1_t1 : Fin k1_t1_loop.trips) : Fin 2 → Nat :=
  let c15 : Index := 15#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v554 : Index := Scalar.indexCast v135
  ![15, v554.toNat]
def k1_off54 (k1_t1 : Fin k1_t1_loop.trips) : Fin 2 → Nat :=
  let c1920 : Index := 1920#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v564 : Index := Scalar.indexCast v135
  ![1920, v564.toNat]
def k1_off55 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v568 : Index := Scalar.indexCast v123
  let c1024_172 : Index := 1024#32
  let c0_173 : Index := 0#32
  ![v568.toNat, 1024, 0]
def k1_off56 (k1_t1 : Fin k1_t1_loop.trips) : Fin 2 → Nat :=
  let c16 : Index := 16#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v581 : Index := Scalar.indexCast v135
  ![16, v581.toNat]
def k1_off57 (k1_t1 : Fin k1_t1_loop.trips) : Fin 2 → Nat :=
  let c2048_177 : Index := 2048#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v591 : Index := Scalar.indexCast v135
  ![2048, v591.toNat]
def k1_off58 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v595 : Index := Scalar.indexCast v123
  let c1088 : Index := 1088#32
  let c0_178 : Index := 0#32
  ![v595.toNat, 1088, 0]
def k1_off59 (k1_t1 : Fin k1_t1_loop.trips) : Fin 2 → Nat :=
  let c17 : Index := 17#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v608 : Index := Scalar.indexCast v135
  ![17, v608.toNat]
def k1_off60 (k1_t1 : Fin k1_t1_loop.trips) : Fin 2 → Nat :=
  let c2176 : Index := 2176#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v618 : Index := Scalar.indexCast v135
  ![2176, v618.toNat]
def k1_off61 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v622 : Index := Scalar.indexCast v123
  let c1152_182 : Index := 1152#32
  let c0_183 : Index := 0#32
  ![v622.toNat, 1152, 0]
def k1_off62 (k1_t1 : Fin k1_t1_loop.trips) : Fin 2 → Nat :=
  let c18 : Index := 18#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v635 : Index := Scalar.indexCast v135
  ![18, v635.toNat]
def k1_off63 (k1_t1 : Fin k1_t1_loop.trips) : Fin 2 → Nat :=
  let c2304 : Index := 2304#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v645 : Index := Scalar.indexCast v135
  ![2304, v645.toNat]
def k1_off64 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v649 : Index := Scalar.indexCast v123
  let c1216 : Index := 1216#32
  let c0_187 : Index := 0#32
  ![v649.toNat, 1216, 0]
def k1_off65 (k1_t1 : Fin k1_t1_loop.trips) : Fin 2 → Nat :=
  let c19 : Index := 19#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v662 : Index := Scalar.indexCast v135
  ![19, v662.toNat]
def k1_off66 (k1_t1 : Fin k1_t1_loop.trips) : Fin 2 → Nat :=
  let c2432 : Index := 2432#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v672 : Index := Scalar.indexCast v135
  ![2432, v672.toNat]
def k1_off67 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v676 : Index := Scalar.indexCast v123
  let c1280_191 : Index := 1280#32
  let c0_192 : Index := 0#32
  ![v676.toNat, 1280, 0]
def k1_off68 (k1_t1 : Fin k1_t1_loop.trips) : Fin 2 → Nat :=
  let c20 : Index := 20#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v689 : Index := Scalar.indexCast v135
  ![20, v689.toNat]
def k1_off69 (k1_t1 : Fin k1_t1_loop.trips) : Fin 2 → Nat :=
  let c2560 : Index := 2560#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v699 : Index := Scalar.indexCast v135
  ![2560, v699.toNat]
def k1_off70 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v703 : Index := Scalar.indexCast v123
  let c1344 : Index := 1344#32
  let c0_196 : Index := 0#32
  ![v703.toNat, 1344, 0]
def k1_off71 (k1_t1 : Fin k1_t1_loop.trips) : Fin 2 → Nat :=
  let c21 : Index := 21#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v716 : Index := Scalar.indexCast v135
  ![21, v716.toNat]
def k1_off72 (k1_t1 : Fin k1_t1_loop.trips) : Fin 2 → Nat :=
  let c2688 : Index := 2688#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v726 : Index := Scalar.indexCast v135
  ![2688, v726.toNat]
def k1_off73 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v730 : Index := Scalar.indexCast v123
  let c1408_200 : Index := 1408#32
  let c0_201 : Index := 0#32
  ![v730.toNat, 1408, 0]
def k1_off74 (k1_t1 : Fin k1_t1_loop.trips) : Fin 2 → Nat :=
  let c22 : Index := 22#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v743 : Index := Scalar.indexCast v135
  ![22, v743.toNat]
def k1_off75 (k1_t1 : Fin k1_t1_loop.trips) : Fin 2 → Nat :=
  let c2816 : Index := 2816#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v753 : Index := Scalar.indexCast v135
  ![2816, v753.toNat]
def k1_off76 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v757 : Index := Scalar.indexCast v123
  let c1472 : Index := 1472#32
  let c0_205 : Index := 0#32
  ![v757.toNat, 1472, 0]
def k1_off77 (k1_t1 : Fin k1_t1_loop.trips) : Fin 2 → Nat :=
  let c23 : Index := 23#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v770 : Index := Scalar.indexCast v135
  ![23, v770.toNat]
def k1_off78 (k1_t1 : Fin k1_t1_loop.trips) : Fin 2 → Nat :=
  let c2944 : Index := 2944#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v780 : Index := Scalar.indexCast v135
  ![2944, v780.toNat]
def k1_off79 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v784 : Index := Scalar.indexCast v123
  let c1536_209 : Index := 1536#32
  let c0_210 : Index := 0#32
  ![v784.toNat, 1536, 0]
def k1_off80 (k1_t1 : Fin k1_t1_loop.trips) : Fin 2 → Nat :=
  let c24 : Index := 24#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v797 : Index := Scalar.indexCast v135
  ![24, v797.toNat]
def k1_off81 (k1_t1 : Fin k1_t1_loop.trips) : Fin 2 → Nat :=
  let c3072_214 : Index := 3072#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v807 : Index := Scalar.indexCast v135
  ![3072, v807.toNat]
def k1_off82 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v811 : Index := Scalar.indexCast v123
  let c1600 : Index := 1600#32
  let c0_215 : Index := 0#32
  ![v811.toNat, 1600, 0]
def k1_off83 (k1_t1 : Fin k1_t1_loop.trips) : Fin 2 → Nat :=
  let c25 : Index := 25#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v824 : Index := Scalar.indexCast v135
  ![25, v824.toNat]
def k1_off84 (k1_t1 : Fin k1_t1_loop.trips) : Fin 2 → Nat :=
  let c3200 : Index := 3200#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v834 : Index := Scalar.indexCast v135
  ![3200, v834.toNat]
def k1_off85 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v838 : Index := Scalar.indexCast v123
  let c1664_219 : Index := 1664#32
  let c0_220 : Index := 0#32
  ![v838.toNat, 1664, 0]
def k1_off86 (k1_t1 : Fin k1_t1_loop.trips) : Fin 2 → Nat :=
  let c26 : Index := 26#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v851 : Index := Scalar.indexCast v135
  ![26, v851.toNat]
def k1_off87 (k1_t1 : Fin k1_t1_loop.trips) : Fin 2 → Nat :=
  let c3328 : Index := 3328#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v861 : Index := Scalar.indexCast v135
  ![3328, v861.toNat]
def k1_off88 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v865 : Index := Scalar.indexCast v123
  let c1728 : Index := 1728#32
  let c0_224 : Index := 0#32
  ![v865.toNat, 1728, 0]
def k1_off89 (k1_t1 : Fin k1_t1_loop.trips) : Fin 2 → Nat :=
  let c27 : Index := 27#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v878 : Index := Scalar.indexCast v135
  ![27, v878.toNat]
def k1_off90 (k1_t1 : Fin k1_t1_loop.trips) : Fin 2 → Nat :=
  let c3456 : Index := 3456#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v888 : Index := Scalar.indexCast v135
  ![3456, v888.toNat]
def k1_off91 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v892 : Index := Scalar.indexCast v123
  let c1792_228 : Index := 1792#32
  let c0_229 : Index := 0#32
  ![v892.toNat, 1792, 0]
def k1_off92 (k1_t1 : Fin k1_t1_loop.trips) : Fin 2 → Nat :=
  let c28 : Index := 28#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v905 : Index := Scalar.indexCast v135
  ![28, v905.toNat]
def k1_off93 (k1_t1 : Fin k1_t1_loop.trips) : Fin 2 → Nat :=
  let c3584 : Index := 3584#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v915 : Index := Scalar.indexCast v135
  ![3584, v915.toNat]
def k1_off94 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v919 : Index := Scalar.indexCast v123
  let c1856 : Index := 1856#32
  let c0_233 : Index := 0#32
  ![v919.toNat, 1856, 0]
def k1_off95 (k1_t1 : Fin k1_t1_loop.trips) : Fin 2 → Nat :=
  let c29 : Index := 29#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v932 : Index := Scalar.indexCast v135
  ![29, v932.toNat]
def k1_off96 (k1_t1 : Fin k1_t1_loop.trips) : Fin 2 → Nat :=
  let c3712 : Index := 3712#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v942 : Index := Scalar.indexCast v135
  ![3712, v942.toNat]
def k1_off97 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v946 : Index := Scalar.indexCast v123
  let c1920_237 : Index := 1920#32
  let c0_238 : Index := 0#32
  ![v946.toNat, 1920, 0]
def k1_off98 (k1_t1 : Fin k1_t1_loop.trips) : Fin 2 → Nat :=
  let c30 : Index := 30#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v959 : Index := Scalar.indexCast v135
  ![30, v959.toNat]
def k1_off99 (k1_t1 : Fin k1_t1_loop.trips) : Fin 2 → Nat :=
  let c3840 : Index := 3840#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v969 : Index := Scalar.indexCast v135
  ![3840, v969.toNat]
def k1_off100 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v973 : Index := Scalar.indexCast v123
  let c1984 : Index := 1984#32
  let c0_242 : Index := 0#32
  ![v973.toNat, 1984, 0]
def k1_off101 (k1_t1 : Fin k1_t1_loop.trips) : Fin 2 → Nat :=
  let c31 : Index := 31#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v986 : Index := Scalar.indexCast v135
  ![31, v986.toNat]
def k1_off102 (k1_t1 : Fin k1_t1_loop.trips) : Fin 2 → Nat :=
  let c3968 : Index := 3968#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v996 : Index := Scalar.indexCast v135
  ![3968, v996.toNat]
def k1_off103 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1000 : Index := Scalar.indexCast v123
  let c2048_246 : Index := 2048#32
  let c0_247 : Index := 0#32
  ![v1000.toNat, 2048, 0]
def k1_off104 (k1_t1 : Fin k1_t1_loop.trips) : Fin 2 → Nat :=
  let c32 : Index := 32#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1013 : Index := Scalar.indexCast v135
  ![32, v1013.toNat]
def k1_off105 (k1_t1 : Fin k1_t1_loop.trips) : Fin 2 → Nat :=
  let c4096_251 : Index := 4096#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1023 : Index := Scalar.indexCast v135
  ![4096, v1023.toNat]
def k1_off106 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1027 : Index := Scalar.indexCast v123
  let c2112 : Index := 2112#32
  let c0_252 : Index := 0#32
  ![v1027.toNat, 2112, 0]
def k1_off107 (k1_t1 : Fin k1_t1_loop.trips) : Fin 2 → Nat :=
  let c33 : Index := 33#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1040 : Index := Scalar.indexCast v135
  ![33, v1040.toNat]
def k1_off108 (k1_t1 : Fin k1_t1_loop.trips) : Fin 2 → Nat :=
  let c4224 : Index := 4224#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1050 : Index := Scalar.indexCast v135
  ![4224, v1050.toNat]
def k1_off109 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1054 : Index := Scalar.indexCast v123
  let c2176_256 : Index := 2176#32
  let c0_257 : Index := 0#32
  ![v1054.toNat, 2176, 0]
def k1_off110 (k1_t1 : Fin k1_t1_loop.trips) : Fin 2 → Nat :=
  let c34 : Index := 34#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1067 : Index := Scalar.indexCast v135
  ![34, v1067.toNat]
def k1_off111 (k1_t1 : Fin k1_t1_loop.trips) : Fin 2 → Nat :=
  let c4352 : Index := 4352#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1077 : Index := Scalar.indexCast v135
  ![4352, v1077.toNat]
def k1_off112 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1081 : Index := Scalar.indexCast v123
  let c2240 : Index := 2240#32
  let c0_261 : Index := 0#32
  ![v1081.toNat, 2240, 0]
def k1_off113 (k1_t1 : Fin k1_t1_loop.trips) : Fin 2 → Nat :=
  let c35 : Index := 35#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1094 : Index := Scalar.indexCast v135
  ![35, v1094.toNat]
def k1_off114 (k1_t1 : Fin k1_t1_loop.trips) : Fin 2 → Nat :=
  let c4480 : Index := 4480#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1104 : Index := Scalar.indexCast v135
  ![4480, v1104.toNat]
def k1_off115 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1108 : Index := Scalar.indexCast v123
  let c2304_265 : Index := 2304#32
  let c0_266 : Index := 0#32
  ![v1108.toNat, 2304, 0]
def k1_off116 (k1_t1 : Fin k1_t1_loop.trips) : Fin 2 → Nat :=
  let c36 : Index := 36#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1121 : Index := Scalar.indexCast v135
  ![36, v1121.toNat]
def k1_off117 (k1_t1 : Fin k1_t1_loop.trips) : Fin 2 → Nat :=
  let c4608 : Index := 4608#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1131 : Index := Scalar.indexCast v135
  ![4608, v1131.toNat]
def k1_off118 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1135 : Index := Scalar.indexCast v123
  let c2368 : Index := 2368#32
  let c0_270 : Index := 0#32
  ![v1135.toNat, 2368, 0]
def k1_off119 (k1_t1 : Fin k1_t1_loop.trips) : Fin 2 → Nat :=
  let c37 : Index := 37#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1148 : Index := Scalar.indexCast v135
  ![37, v1148.toNat]
def k1_off120 (k1_t1 : Fin k1_t1_loop.trips) : Fin 2 → Nat :=
  let c4736 : Index := 4736#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1158 : Index := Scalar.indexCast v135
  ![4736, v1158.toNat]
def k1_off121 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1162 : Index := Scalar.indexCast v123
  let c2432_274 : Index := 2432#32
  let c0_275 : Index := 0#32
  ![v1162.toNat, 2432, 0]
def k1_off122 (k1_t1 : Fin k1_t1_loop.trips) : Fin 2 → Nat :=
  let c38 : Index := 38#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1175 : Index := Scalar.indexCast v135
  ![38, v1175.toNat]
def k1_off123 (k1_t1 : Fin k1_t1_loop.trips) : Fin 2 → Nat :=
  let c4864 : Index := 4864#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1185 : Index := Scalar.indexCast v135
  ![4864, v1185.toNat]
def k1_off124 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1189 : Index := Scalar.indexCast v123
  let c2496 : Index := 2496#32
  let c0_279 : Index := 0#32
  ![v1189.toNat, 2496, 0]
def k1_off125 (k1_t1 : Fin k1_t1_loop.trips) : Fin 2 → Nat :=
  let c39 : Index := 39#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1202 : Index := Scalar.indexCast v135
  ![39, v1202.toNat]
def k1_off126 (k1_t1 : Fin k1_t1_loop.trips) : Fin 2 → Nat :=
  let c4992 : Index := 4992#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1212 : Index := Scalar.indexCast v135
  ![4992, v1212.toNat]
def k1_off127 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1216 : Index := Scalar.indexCast v123
  let c2560_283 : Index := 2560#32
  let c0_284 : Index := 0#32
  ![v1216.toNat, 2560, 0]
def k1_off128 (k1_t1 : Fin k1_t1_loop.trips) : Fin 2 → Nat :=
  let c40 : Index := 40#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1229 : Index := Scalar.indexCast v135
  ![40, v1229.toNat]
def k1_off129 (k1_t1 : Fin k1_t1_loop.trips) : Fin 2 → Nat :=
  let c5120_288 : Index := 5120#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1239 : Index := Scalar.indexCast v135
  ![5120, v1239.toNat]
def k1_off130 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1243 : Index := Scalar.indexCast v123
  let c2624 : Index := 2624#32
  let c0_289 : Index := 0#32
  ![v1243.toNat, 2624, 0]
def k1_off131 (k1_t1 : Fin k1_t1_loop.trips) : Fin 2 → Nat :=
  let c41 : Index := 41#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1256 : Index := Scalar.indexCast v135
  ![41, v1256.toNat]
def k1_off132 (k1_t1 : Fin k1_t1_loop.trips) : Fin 2 → Nat :=
  let c5248 : Index := 5248#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1266 : Index := Scalar.indexCast v135
  ![5248, v1266.toNat]
def k1_off133 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1270 : Index := Scalar.indexCast v123
  let c2688_293 : Index := 2688#32
  let c0_294 : Index := 0#32
  ![v1270.toNat, 2688, 0]
def k1_off134 (k1_t1 : Fin k1_t1_loop.trips) : Fin 2 → Nat :=
  let c42 : Index := 42#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1283 : Index := Scalar.indexCast v135
  ![42, v1283.toNat]
def k1_off135 (k1_t1 : Fin k1_t1_loop.trips) : Fin 2 → Nat :=
  let c5376 : Index := 5376#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1293 : Index := Scalar.indexCast v135
  ![5376, v1293.toNat]
def k1_off136 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1297 : Index := Scalar.indexCast v123
  let c2752 : Index := 2752#32
  let c0_298 : Index := 0#32
  ![v1297.toNat, 2752, 0]
def k1_off137 (k1_t1 : Fin k1_t1_loop.trips) : Fin 2 → Nat :=
  let c43 : Index := 43#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1310 : Index := Scalar.indexCast v135
  ![43, v1310.toNat]
def k1_off138 (k1_t1 : Fin k1_t1_loop.trips) : Fin 2 → Nat :=
  let c5504 : Index := 5504#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1320 : Index := Scalar.indexCast v135
  ![5504, v1320.toNat]
def k1_off139 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1324 : Index := Scalar.indexCast v123
  let c2816_302 : Index := 2816#32
  let c0_303 : Index := 0#32
  ![v1324.toNat, 2816, 0]
def k1_off140 (k1_t1 : Fin k1_t1_loop.trips) : Fin 2 → Nat :=
  let c44 : Index := 44#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1337 : Index := Scalar.indexCast v135
  ![44, v1337.toNat]
def k1_off141 (k1_t1 : Fin k1_t1_loop.trips) : Fin 2 → Nat :=
  let c5632 : Index := 5632#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1347 : Index := Scalar.indexCast v135
  ![5632, v1347.toNat]
def k1_off142 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1351 : Index := Scalar.indexCast v123
  let c2880 : Index := 2880#32
  let c0_307 : Index := 0#32
  ![v1351.toNat, 2880, 0]
def k1_off143 (k1_t1 : Fin k1_t1_loop.trips) : Fin 2 → Nat :=
  let c45 : Index := 45#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1364 : Index := Scalar.indexCast v135
  ![45, v1364.toNat]
def k1_off144 (k1_t1 : Fin k1_t1_loop.trips) : Fin 2 → Nat :=
  let c5760 : Index := 5760#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1374 : Index := Scalar.indexCast v135
  ![5760, v1374.toNat]
def k1_off145 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1378 : Index := Scalar.indexCast v123
  let c2944_311 : Index := 2944#32
  let c0_312 : Index := 0#32
  ![v1378.toNat, 2944, 0]
def k1_off146 (k1_t1 : Fin k1_t1_loop.trips) : Fin 2 → Nat :=
  let c46 : Index := 46#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1391 : Index := Scalar.indexCast v135
  ![46, v1391.toNat]
def k1_off147 (k1_t1 : Fin k1_t1_loop.trips) : Fin 2 → Nat :=
  let c5888 : Index := 5888#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1401 : Index := Scalar.indexCast v135
  ![5888, v1401.toNat]
def k1_off148 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1405 : Index := Scalar.indexCast v123
  let c3008 : Index := 3008#32
  let c0_316 : Index := 0#32
  ![v1405.toNat, 3008, 0]
def k1_off149 (k1_t1 : Fin k1_t1_loop.trips) : Fin 2 → Nat :=
  let c47 : Index := 47#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1418 : Index := Scalar.indexCast v135
  ![47, v1418.toNat]
def k1_off150 (k1_t1 : Fin k1_t1_loop.trips) : Fin 2 → Nat :=
  let c6016 : Index := 6016#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1428 : Index := Scalar.indexCast v135
  ![6016, v1428.toNat]
def k1_off151 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1432 : Index := Scalar.indexCast v123
  let c3072_320 : Index := 3072#32
  let c0_321 : Index := 0#32
  ![v1432.toNat, 3072, 0]
def k1_off152 (k1_t1 : Fin k1_t1_loop.trips) : Fin 2 → Nat :=
  let c48 : Index := 48#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1445 : Index := Scalar.indexCast v135
  ![48, v1445.toNat]
def k1_off153 (k1_t1 : Fin k1_t1_loop.trips) : Fin 2 → Nat :=
  let c6144_325 : Index := 6144#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1455 : Index := Scalar.indexCast v135
  ![6144, v1455.toNat]
def k1_off154 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1459 : Index := Scalar.indexCast v123
  let c3136 : Index := 3136#32
  let c0_326 : Index := 0#32
  ![v1459.toNat, 3136, 0]
def k1_off155 (k1_t1 : Fin k1_t1_loop.trips) : Fin 2 → Nat :=
  let c49 : Index := 49#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1472 : Index := Scalar.indexCast v135
  ![49, v1472.toNat]
def k1_off156 (k1_t1 : Fin k1_t1_loop.trips) : Fin 2 → Nat :=
  let c6272 : Index := 6272#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1482 : Index := Scalar.indexCast v135
  ![6272, v1482.toNat]
def k1_off157 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1486 : Index := Scalar.indexCast v123
  let c3200_330 : Index := 3200#32
  let c0_331 : Index := 0#32
  ![v1486.toNat, 3200, 0]
def k1_off158 (k1_t1 : Fin k1_t1_loop.trips) : Fin 2 → Nat :=
  let c50 : Index := 50#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1499 : Index := Scalar.indexCast v135
  ![50, v1499.toNat]
def k1_off159 (k1_t1 : Fin k1_t1_loop.trips) : Fin 2 → Nat :=
  let c6400 : Index := 6400#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1509 : Index := Scalar.indexCast v135
  ![6400, v1509.toNat]
def k1_off160 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1513 : Index := Scalar.indexCast v123
  let c3264 : Index := 3264#32
  let c0_335 : Index := 0#32
  ![v1513.toNat, 3264, 0]
def k1_off161 (k1_t1 : Fin k1_t1_loop.trips) : Fin 2 → Nat :=
  let c51 : Index := 51#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1526 : Index := Scalar.indexCast v135
  ![51, v1526.toNat]
def k1_off162 (k1_t1 : Fin k1_t1_loop.trips) : Fin 2 → Nat :=
  let c6528 : Index := 6528#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1536 : Index := Scalar.indexCast v135
  ![6528, v1536.toNat]
def k1_off163 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1540 : Index := Scalar.indexCast v123
  let c3328_339 : Index := 3328#32
  let c0_340 : Index := 0#32
  ![v1540.toNat, 3328, 0]
def k1_off164 (k1_t1 : Fin k1_t1_loop.trips) : Fin 2 → Nat :=
  let c52 : Index := 52#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1553 : Index := Scalar.indexCast v135
  ![52, v1553.toNat]
def k1_off165 (k1_t1 : Fin k1_t1_loop.trips) : Fin 2 → Nat :=
  let c6656 : Index := 6656#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1563 : Index := Scalar.indexCast v135
  ![6656, v1563.toNat]
def k1_off166 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1567 : Index := Scalar.indexCast v123
  let c3392 : Index := 3392#32
  let c0_344 : Index := 0#32
  ![v1567.toNat, 3392, 0]
def k1_off167 (k1_t1 : Fin k1_t1_loop.trips) : Fin 2 → Nat :=
  let c53 : Index := 53#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1580 : Index := Scalar.indexCast v135
  ![53, v1580.toNat]
def k1_off168 (k1_t1 : Fin k1_t1_loop.trips) : Fin 2 → Nat :=
  let c6784 : Index := 6784#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1590 : Index := Scalar.indexCast v135
  ![6784, v1590.toNat]
def k1_off169 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1594 : Index := Scalar.indexCast v123
  let c3456_348 : Index := 3456#32
  let c0_349 : Index := 0#32
  ![v1594.toNat, 3456, 0]
def k1_off170 (k1_t1 : Fin k1_t1_loop.trips) : Fin 2 → Nat :=
  let c54 : Index := 54#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1607 : Index := Scalar.indexCast v135
  ![54, v1607.toNat]
def k1_off171 (k1_t1 : Fin k1_t1_loop.trips) : Fin 2 → Nat :=
  let c6912 : Index := 6912#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1617 : Index := Scalar.indexCast v135
  ![6912, v1617.toNat]
def k1_off172 (k1_t1 : Fin k1_t1_loop.trips) : Fin 3 → Nat :=
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c2_i32 : BitVec 32 := 2#32
  let v123 : BitVec 32 := Scalar.remsi v122 c2_i32
  let v1621 : Index := Scalar.indexCast v123
  let c3520 : Index := 3520#32
  let c0_353 : Index := 0#32
  ![v1621.toNat, 3520, 0]
def k1_off173 (k1_t1 : Fin k1_t1_loop.trips) : Fin 2 → Nat :=
  let c55 : Index := 55#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1634 : Index := Scalar.indexCast v135
  ![55, v1634.toNat]
def k1_off174 (k1_t1 : Fin k1_t1_loop.trips) : Fin 2 → Nat :=
  let c7040 : Index := 7040#32
  let c0_i32_89 : BitVec 32 := 0#32
  let c0_i32_86 : BitVec 32 := 0#32
  let c1_i32 : BitVec 32 := 1#32
  let arg12 : BitVec 32 := Scf.iv c0_i32_86 c1_i32 k1_t1
  let c1_i32_88 : BitVec 32 := 1#32
  let v121 : BitVec 32 := Scalar.muli arg12 c1_i32_88
  let v122 : BitVec 32 := Scalar.addi c0_i32_89 v121
  let c256_i32_96 : BitVec 32 := 256#32
  let v134 : BitVec 32 := Scalar.muli v122 c256_i32_96
  let v135 : BitVec 32 := v134
  let v1644 : Index := Scalar.indexCast v135
  ![7040, v1644.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x7168 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x7168 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S192x7168 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S56x2560 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S56x2560 .i8 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x2560 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S256x7168 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S8x1152x7168 : Shape := ⟨3, ![8, 1152, 7168]⟩
abbrev S32x7168 : Shape := ⟨2, ![32, 7168]⟩
abbrev S3584x2560 : Shape := ⟨2, ![3584, 2560]⟩
abbrev S56x2560 : Shape := ⟨2, ![56, 2560]⟩
abbrev S_ : Shape := ⟨0, ![]⟩
abbrev S32 : Shape := ⟨1, ![32]⟩
abbrev S32x1 : Shape := ⟨2, ![32, 1]⟩
abbrev S7168x32 : Shape := ⟨2, ![7168, 32]⟩
abbrev S32x32 : Shape := ⟨2, ![32, 32]⟩
abbrev S1x32 : Shape := ⟨2, ![1, 32]⟩
abbrev S1x1 : Shape := ⟨2, ![1, 1]⟩
abbrev S8x1152x32 : Shape := ⟨3, ![8, 1152, 32]⟩
abbrev S56x64x2560 : Shape := ⟨3, ![56, 64, 2560]⟩
abbrev S56x1x2560 : Shape := ⟨3, ![56, 1, 2560]⟩
abbrev S3584x1x2560 : Shape := ⟨3, ![3584, 1, 2560]⟩
abbrev S3584x2x2560 : Shape := ⟨3, ![3584, 2, 2560]⟩
abbrev S7168x2560 : Shape := ⟨2, ![7168, 2560]⟩
abbrev S8x1152x2560 : Shape := ⟨3, ![8, 1152, 2560]⟩

abbrev nBuf : Space → Nat
  | .hbm => 133
  | .vmem => 0
  | .smem => 0
  | _ => 0

abbrev hbmTy0_0 (i : Nat) : BufTy := match i % 128 with
  | 0 => ⟨S8x1152x7168, .bf16⟩
  | 1 => ⟨S32x7168, .f32⟩
  | 2 => ⟨S3584x2560, .i8⟩
  | 3 => ⟨S56x2560, .bf16⟩
  | 4 => ⟨S56x2560, .i8⟩
  | 5 => ⟨S32x7168, .f32⟩
  | 6 => ⟨S_, .f32⟩
  | 7 => ⟨S32, .f32⟩
  | 8 => ⟨S32x1, .f32⟩
  | 9 => ⟨S32x1, .f32⟩
  | 10 => ⟨S32x7168, .f32⟩
  | 11 => ⟨S32x7168, .f32⟩
  | 12 => ⟨S7168x32, .f32⟩
  | 13 => ⟨S32x32, .f32⟩
  | 14 => ⟨S32x32, .i32⟩
  | 15 => ⟨S32x32, .i32⟩
  | 16 => ⟨S_, .i32⟩
  | 17 => ⟨S32x32, .i32⟩
  | 18 => ⟨S32x32, .i32⟩
  | 19 => ⟨S32x32, .i1⟩
  | 20 => ⟨S32x32, .f32⟩
  | 21 => ⟨S_, .f32⟩
  | 22 => ⟨S32x32, .f32⟩
  | 23 => ⟨S32x32, .f32⟩
  | 24 => ⟨S32x32, .i32⟩
  | 25 => ⟨S_, .i32⟩
  | 26 => ⟨S32x32, .i32⟩
  | 27 => ⟨S32x32, .i32⟩
  | 28 => ⟨S32x32, .i32⟩
  | 29 => ⟨S32x32, .i1⟩
  | 30 => ⟨S_, .f32⟩
  | 31 => ⟨S32x32, .f32⟩
  | 32 => ⟨S32x32, .f32⟩
  | 33 => ⟨S32x32, .f32⟩
  | 34 => ⟨S_, .f32⟩
  | 35 => ⟨S32x32, .f32⟩
  | 36 => ⟨S_, .i32⟩
  | 37 => ⟨S_, .i32⟩
  | 38 => ⟨S32x32, .f32⟩
  | 39 => ⟨S32x32, .f32⟩
  | 40 => ⟨S_, .i32⟩
  | 41 => ⟨S_, .i32⟩
  | 42 => ⟨S32x32, .f32⟩
  | 43 => ⟨S_, .i32⟩
  | 44 => ⟨S_, .i1⟩
  | 45 => ⟨S_, .i32⟩
  | 46 => ⟨S_, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S_, .i32⟩
  | 54 => ⟨S_, .i32⟩
  | 55 => ⟨S_, .i32⟩
  | 56 => ⟨S1x32, .f32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1x32, .f32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S_, .i32⟩
  | 76 => ⟨S_, .i32⟩
  | 77 => ⟨S1x1, .f32⟩
  | 78 => ⟨S1x32, .f32⟩
  | 79 => ⟨S1x32, .f32⟩
  | 80 => ⟨S1x32, .f32⟩
  | 81 => ⟨S1x32, .f32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S32x32, .f32⟩
  | 90 => ⟨S_, .i32⟩
  | 91 => ⟨S_, .i32⟩
  | 92 => ⟨S8x1152x7168, .f32⟩
  | 93 => ⟨S8x1152x32, .f32⟩
  | 94 => ⟨S8x1152x32, .f32⟩
  | 95 => ⟨S8x1152x7168, .f32⟩
  | 96 => ⟨S8x1152x7168, .f32⟩
  | 97 => ⟨S8x1152x7168, .bf16⟩
  | 98 => ⟨S3584x2560, .i32⟩
  | 99 => ⟨S_, .i32⟩
  | 100 => ⟨S3584x2560, .i32⟩
  | 101 => ⟨S3584x2560, .i32⟩
  | 102 => ⟨S3584x2560, .bf16⟩
  | 103 => ⟨S56x64x2560, .bf16⟩
  | 104 => ⟨S56x2560, .i32⟩
  | 105 => ⟨S56x2560, .bf16⟩
  | 106 => ⟨S56x1x2560, .bf16⟩
  | 107 => ⟨S56x1x2560, .bf16⟩
  | 108 => ⟨S56x64x2560, .bf16⟩
  | 109 => ⟨S56x64x2560, .bf16⟩
  | 110 => ⟨S56x64x2560, .bf16⟩
  | 111 => ⟨S56x64x2560, .bf16⟩
  | 112 => ⟨S3584x2560, .bf16⟩
  | 113 => ⟨S_, .i32⟩
  | 114 => ⟨S3584x2560, .i32⟩
  | 115 => ⟨S3584x2560, .i32⟩
  | 116 => ⟨S3584x2560, .bf16⟩
  | 117 => ⟨S56x64x2560, .bf16⟩
  | 118 => ⟨S56x2560, .i32⟩
  | 119 => ⟨S56x2560, .bf16⟩
  | 120 => ⟨S56x1x2560, .bf16⟩
  | 121 => ⟨S56x1x2560, .bf16⟩
  | 122 => ⟨S56x64x2560, .bf16⟩
  | 123 => ⟨S56x64x2560, .bf16⟩
  | 124 => ⟨S56x64x2560, .bf16⟩
  | 125 => ⟨S56x64x2560, .bf16⟩
  | 126 => ⟨S3584x2560, .bf16⟩
  | 127 => ⟨S3584x1x2560, .bf16⟩
  | _ => ⟨S8x1152x7168, .bf16⟩

abbrev hbmTy0_1 (i : Nat) : BufTy := match i % 128 with
  | 0 => ⟨S3584x1x2560, .bf16⟩
  | 1 => ⟨S3584x2x2560, .bf16⟩
  | 2 => ⟨S7168x2560, .bf16⟩
  | 3 => ⟨S8x1152x2560, .f32⟩
  | 4 => ⟨S8x1152x2560, .bf16⟩
  | _ => ⟨S8x1152x7168, .bf16⟩

abbrev hbmTy (i : Nat) : BufTy := match i / 128 with
  | 0 => hbmTy0_0 i
  | 1 => hbmTy0_1 i
  | _ => ⟨S8x1152x7168, .bf16⟩

abbrev bufTy : (tb : Table) → Fin (tcTables nBuf tb) → BufTy
  | .hbm, ⟨i, _⟩ => hbmTy i
  | _, _ => ⟨S8x1152x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_cst : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_c_2 : Ref sig .tc := ⟨.hbm, 36, rfl⟩
abbrev main_c_3 : Ref sig .tc := ⟨.hbm, 37, rfl⟩
abbrev main_v19_0 : Ref sig .tc := ⟨.hbm, 38, rfl⟩
abbrev main_v19_1 : Ref sig .tc := ⟨.hbm, 39, rfl⟩
abbrev main_v19_2 : Ref sig .tc := ⟨.hbm, 40, rfl⟩
abbrev main_v19_3 : Ref sig .tc := ⟨.hbm, 41, rfl⟩
abbrev main_v19_4 : Ref sig .tc := ⟨.hbm, 42, rfl⟩
abbrev main_while0c_c_10 : Ref sig .tc := ⟨.hbm, 43, rfl⟩
abbrev main_while0c_v59 : Ref sig .tc := ⟨.hbm, 44, rfl⟩
abbrev main_while0b_c_10 : Ref sig .tc := ⟨.hbm, 45, rfl⟩
abbrev main_while0b_v59 : Ref sig .tc := ⟨.hbm, 46, rfl⟩
abbrev main_while0b_c_11 : Ref sig .tc := ⟨.hbm, 47, rfl⟩
abbrev main_while0b_v60 : Ref sig .tc := ⟨.hbm, 48, rfl⟩
abbrev main_while0b_c_12 : Ref sig .tc := ⟨.hbm, 49, rfl⟩
abbrev main_while0b_v61 : Ref sig .tc := ⟨.hbm, 50, rfl⟩
abbrev main_while0b_v62 : Ref sig .tc := ⟨.hbm, 51, rfl⟩
abbrev main_while0b_c_13 : Ref sig .tc := ⟨.hbm, 52, rfl⟩
abbrev main_while0b_v63 : Ref sig .tc := ⟨.hbm, 53, rfl⟩
abbrev main_while0b_v64 : Ref sig .tc := ⟨.hbm, 54, rfl⟩
abbrev main_while0b_c_14 : Ref sig .tc := ⟨.hbm, 55, rfl⟩
abbrev main_while0b_v65 : Ref sig .tc := ⟨.hbm, 56, rfl⟩
abbrev main_while0b_c_15 : Ref sig .tc := ⟨.hbm, 57, rfl⟩
abbrev main_while0b_v66 : Ref sig .tc := ⟨.hbm, 58, rfl⟩
abbrev main_while0b_v67 : Ref sig .tc := ⟨.hbm, 59, rfl⟩
abbrev main_while0b_c_16 : Ref sig .tc := ⟨.hbm, 60, rfl⟩
abbrev main_while0b_v68 : Ref sig .tc := ⟨.hbm, 61, rfl⟩
abbrev main_while0b_v69 : Ref sig .tc := ⟨.hbm, 62, rfl⟩
abbrev main_while0b_c_17 : Ref sig .tc := ⟨.hbm, 63, rfl⟩
abbrev main_while0b_v70 : Ref sig .tc := ⟨.hbm, 64, rfl⟩
abbrev main_while0b_c_18 : Ref sig .tc := ⟨.hbm, 65, rfl⟩
abbrev main_while0b_v71 : Ref sig .tc := ⟨.hbm, 66, rfl⟩
abbrev main_while0b_v72 : Ref sig .tc := ⟨.hbm, 67, rfl⟩
abbrev main_while0b_c_19 : Ref sig .tc := ⟨.hbm, 68, rfl⟩
abbrev main_while0b_v73 : Ref sig .tc := ⟨.hbm, 69, rfl⟩
abbrev main_while0b_v74 : Ref sig .tc := ⟨.hbm, 70, rfl⟩
abbrev main_while0b_c_20 : Ref sig .tc := ⟨.hbm, 71, rfl⟩
abbrev main_while0b_v75 : Ref sig .tc := ⟨.hbm, 72, rfl⟩
abbrev main_while0b_v76 : Ref sig .tc := ⟨.hbm, 73, rfl⟩
abbrev main_while0b_c_21 : Ref sig .tc := ⟨.hbm, 74, rfl⟩
abbrev main_while0b_v77 : Ref sig .tc := ⟨.hbm, 75, rfl⟩
abbrev main_while0b_v78 : Ref sig .tc := ⟨.hbm, 76, rfl⟩
abbrev main_while0b_v79 : Ref sig .tc := ⟨.hbm, 77, rfl⟩
abbrev main_while0b_v80 : Ref sig .tc := ⟨.hbm, 78, rfl⟩
abbrev main_while0b_v81 : Ref sig .tc := ⟨.hbm, 79, rfl⟩
abbrev main_while0b_v82 : Ref sig .tc := ⟨.hbm, 80, rfl⟩
abbrev main_while0b_v83 : Ref sig .tc := ⟨.hbm, 81, rfl⟩
abbrev main_while0b_c_22 : Ref sig .tc := ⟨.hbm, 82, rfl⟩
abbrev main_while0b_v84 : Ref sig .tc := ⟨.hbm, 83, rfl⟩
abbrev main_while0b_v85 : Ref sig .tc := ⟨.hbm, 84, rfl⟩
abbrev main_while0b_c_23 : Ref sig .tc := ⟨.hbm, 85, rfl⟩
abbrev main_while0b_v86 : Ref sig .tc := ⟨.hbm, 86, rfl⟩
abbrev main_while0b_v87 : Ref sig .tc := ⟨.hbm, 87, rfl⟩
abbrev main_while0b_c_24 : Ref sig .tc := ⟨.hbm, 88, rfl⟩
abbrev main_while0b_v88 : Ref sig .tc := ⟨.hbm, 89, rfl⟩
abbrev main_while0b_c_25 : Ref sig .tc := ⟨.hbm, 90, rfl⟩
abbrev main_while0b_v89 : Ref sig .tc := ⟨.hbm, 91, rfl⟩
abbrev main_v20 : Ref sig .tc := ⟨.hbm, 92, rfl⟩
abbrev main_v21 : Ref sig .tc := ⟨.hbm, 93, rfl⟩
abbrev main_v22 : Ref sig .tc := ⟨.hbm, 94, rfl⟩
abbrev main_v23 : Ref sig .tc := ⟨.hbm, 95, rfl⟩
abbrev main_v24 : Ref sig .tc := ⟨.hbm, 96, rfl⟩
abbrev main_v25 : Ref sig .tc := ⟨.hbm, 97, rfl⟩
abbrev main_v26 : Ref sig .tc := ⟨.hbm, 98, rfl⟩
abbrev main_c_4 : Ref sig .tc := ⟨.hbm, 99, rfl⟩
abbrev main_v27 : Ref sig .tc := ⟨.hbm, 100, rfl⟩
abbrev main_v28 : Ref sig .tc := ⟨.hbm, 101, rfl⟩
abbrev main_v29 : Ref sig .tc := ⟨.hbm, 102, rfl⟩
abbrev main_v30 : Ref sig .tc := ⟨.hbm, 103, rfl⟩
abbrev main_v31 : Ref sig .tc := ⟨.hbm, 104, rfl⟩
abbrev main_v32 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_c_5 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_v45 : Ref sig .tc := ⟨.hbm, 119, rfl⟩
abbrev main_v46 : Ref sig .tc := ⟨.hbm, 120, rfl⟩
abbrev main_v47 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩

abbrev nD : Nat := 1
abbrev τ : Topo := Topo.v7x

variable {F : FTy → Type} [FloatOps F]

abbrev main_while0_count : Scf.Loop 32 := ⟨0#32, 32#32, 1#32⟩
-- ==== Proof.Ring.lean ====
module

public import proofs.«01_k».proof.Defs
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.Tactic

/-!
# The ring of byte chunks

The main kernel brings the packed weights into VMEM in ten column chunks of 256 columns, through a
buffer of two slots with one DMA semaphore each: while chunk `k` is unpacked, chunk `k + 1` is on its
way. This module names the chunks, slots and cells, and the resources held before a trip.
-/

@[expose] public section

noncomputable section

namespace Cert.Proof.Hra

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The algebra: the pipelines' rounds beside the transfer counters. -/
abbrev UU (nD : Nat) (τ : Topo) : Type := UR sig nD τ × Counters
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

/-- The packed weights in HBM, and the two-slot buffer. -/
abbrev aM : Memref sig .tc .hbm S3584x2560 .i8 := Memref.whole main_arg2
abbrev bufM : Memref sig .tc .vmem S2x3584x256 .i8 := Memref.whole cc1_scratch1
abbrev wM : Memref sig .tc .vmem S7168x2560 .bf16 := Memref.whole cc1_scratch0

abbrev grpOff (b : Fin 10) : Fin 2 → Nat := ![0, 256 * b.val]
theorem grpOff_inb (b : Fin 10) : ∀ a, grpOff b a + S3584x256.size a ≤ S3584x2560.size a := by
  intro a; revert a; revert b; decide
abbrev slotOff (s : Fin 2) : Fin 3 → Nat := ![s.val, 0, 0]
theorem slotOff_inb (s : Fin 2) : ∀ a, slotOff s a + S1x3584x256.size a ≤ S2x3584x256.size a := by
  intro a; revert a; revert s; decide
abbrev semOff (s : Fin 2) : Fin 1 → Nat := ![s.val]
theorem semOff_inb (s : Fin 2) : ∀ a, semOff s a + S1.size a ≤ S2.size a := by
  intro a; revert a; revert s; decide

/-- Chunk `b` of the packed weights: columns `256 b … 256 b + 255`. -/
def grp (b : Fin 10) : Memref sig .tc .hbm S3584x256 .i8 :=
  aM.slice (Rect.unit (s := S3584x2560) (grpOff b) S3584x256.size (grpOff_inb b)) (fun _ => rfl)
/-- Slot `s` of the buffer. -/
def rslot (s : Fin 2) : Memref sig .tc .vmem S3584x256 .i8 :=
  (bufM.slice (Rect.unit (s := S2x3584x256) (slotOff s) S1x3584x256.size (slotOff_inb s)) (fun _ => rfl)).squeeze S3584x256 squeezes_S1x3584x256_S3584x256
/-- Slot `s`'s semaphore. -/
def csm (s : Fin 2) : DmaSems sig S_ := (cc1_scratch2.slice (Rect.unit (s := S2) (semOff s) S1.size (semOff_inb s))).squeeze S_ squeezes_S1_S_

instance (s : Fin 2) : ClosedOff (slotOff s) := ⟨slotOff s, rfl⟩
instance (k : ℕ) : ClosedOff (slotOff (Ring.sl 2 k)) := ⟨![k % 2, 0, 0], rfl⟩
instance (b : Fin 10) : ClosedOff (grpOff b) := ⟨grpOff b, rfl⟩

theorem trip_lt (k : Fin k1_t1_loop.trips) : k.val < 10 := Nat.lt_of_lt_of_le k.isLt k1_t1_abs.2.1

/-! ## The trip's slices under these names -/

section Canon

private theorem csm_congr {off : Fin 1 → Nat} {s : Fin 2} (e : off = semOff s) (hh) :
    (cc1_scratch2.slice (Rect.unit (s := S2) off S1.size hh)).squeeze S_ squeezes_S1_S_ = csm s :=
  congrArg (fun A : DmaSems sig S1 => A.squeeze S_ squeezes_S1_S_) (SemArray.slice_unit_congr _ e _ _)
private theorem rslot_congr {off : Fin 3 → Nat} {s : Fin 2} (e : off = slotOff s) (hh hs) :
    (bufM.slice (Rect.unit (s := S2x3584x256) off S1x3584x256.size hh) hs).squeeze S3584x256 squeezes_S1x3584x256_S3584x256 = rslot s :=
  congrArg (fun M : Memref sig .tc .vmem S1x3584x256 .i8 => M.squeeze S3584x256 squeezes_S1x3584x256_S3584x256) (Memref.slice_unit_congr _ e _ _ _ _)
private theorem grp_congr {off : Fin 2 → Nat} {b : Fin 10} (e : off = grpOff b) (hh hs) :
    aM.slice (Rect.unit (s := S3584x2560) off S3584x256.size hh) hs = grp b :=
  Memref.slice_unit_congr _ e _ _ _ (fun _ => rfl)

/-- The offset of the next step's semaphore. -/
theorem off1_eq (k : Fin k1_t1_loop.trips) : k1_off1 k = semOff (Ring.sl 2 (k.val + 1)) := by
  rw [k1_off1_eq]; simp only [semOff, Ring.sl, Fin.ofNat]; congr 1; omega
/-- The offset of the next step's slot. -/
theorem off2_eq (k : Fin k1_t1_loop.trips) : k1_off2 k = slotOff (Ring.sl 2 (k.val + 1)) := by
  rw [k1_off2_eq]; simp only [slotOff, Ring.sl, Fin.ofNat]; congr 1; omega
/-- The offset of the next step's column block. -/
theorem off3_eq (k : Fin k1_t1_loop.trips) (hk : k.val + 1 < 10) : k1_off3 k = grpOff (Ring.bk 10 (k.val + 1)) := by
  rw [k1_off3_eq]; simp only [grpOff, Ring.bk_val hk]; rfl
/-- The offset of this step's semaphore. -/
theorem off4_eq (k : Fin k1_t1_loop.trips) : k1_off4 k = semOff (Ring.sl 2 k.val) := by
  rw [k1_off4_eq]; rfl
/-- The offset of this step's slot. -/
theorem off5_eq (k : Fin k1_t1_loop.trips) : k1_off5 k = slotOff (Ring.sl 2 k.val) := by
  rw [k1_off5_eq]; rfl
/-- The offset of this step's column block. -/
theorem off6_eq (k : Fin k1_t1_loop.trips) (hk : k.val < 10) : k1_off6 k = grpOff (Ring.bk 10 k.val) := by
  rw [k1_off6_eq]; simp only [grpOff, Ring.bk_val hk]

/-- The prologue's literal slices. -/
@[sl_canon] theorem semL0 (hh) : (cc1_scratch2.slice (Rect.unit (s := S2) ![0] S1.size hh)).squeeze S_ squeezes_S1_S_ = csm 0 := csm_congr (by decide) _
@[sl_canon] theorem slotL0 (hh hs) : (bufM.slice (Rect.unit (s := S2x3584x256) ![0, 0, 0] S1x3584x256.size hh) hs).squeeze S3584x256 squeezes_S1x3584x256_S3584x256 = rslot 0 := rslot_congr (by decide) _ _
@[sl_canon] theorem grpL0 (hh hs) : aM.slice (Rect.unit (s := S3584x2560) ![0, 0] S3584x256.size hh) hs = grp 0 := grp_congr (by decide) _ _

/-- Trip `k` issues chunk `k + 1` into the other slot … -/
@[sl_canon] theorem semN (k : Fin k1_t1_loop.trips) (hh) :
    (cc1_scratch2.slice (Rect.unit (s := S2) (k1_off1 k) S1.size hh)).squeeze S_ squeezes_S1_S_ = csm (Ring.sl 2 (k.val + 1)) := csm_congr (off1_eq k) _
@[sl_canon] theorem slotN (k : Fin k1_t1_loop.trips) (hh hs) :
    (bufM.slice (Rect.unit (s := S2x3584x256) (k1_off2 k) S1x3584x256.size hh) hs).squeeze S3584x256 squeezes_S1x3584x256_S3584x256 = rslot (Ring.sl 2 (k.val + 1)) := rslot_congr (off2_eq k) _ _
@[sl_canon] theorem grpN (k : Fin k1_t1_loop.trips) (hk : k.val + 1 < 10) (hh hs) :
    aM.slice (Rect.unit (s := S3584x2560) (k1_off3 k) S3584x256.size hh) hs = grp (Ring.bk 10 (k.val + 1)) := grp_congr (off3_eq k hk) _ _
/-- … and waits for chunk `k`. -/
@[sl_canon] theorem semW (k : Fin k1_t1_loop.trips) (hh) :
    (cc1_scratch2.slice (Rect.unit (s := S2) (k1_off4 k) S1.size hh)).squeeze S_ squeezes_S1_S_ = csm (Ring.sl 2 k.val) := csm_congr (off4_eq k) _
@[sl_canon] theorem slotW (k : Fin k1_t1_loop.trips) (hh hs) :
    (bufM.slice (Rect.unit (s := S2x3584x256) (k1_off5 k) S1x3584x256.size hh) hs).squeeze S3584x256 squeezes_S1x3584x256_S3584x256 = rslot (Ring.sl 2 k.val) := rslot_congr (off5_eq k) _ _
@[sl_canon] theorem grpW (k : Fin k1_t1_loop.trips) (hk : k.val < 10) (hh hs) :
    aM.slice (Rect.unit (s := S3584x2560) (k1_off6 k) S3584x256.size hh) hs = grp (Ring.bk 10 k.val) := grp_congr (off6_eq k hk) _ _

end Canon

/-! ## The resources of the ring -/

section Pieces
variable (c : Dev nD) (XA : Buf (Elt F) (aM.view.loc (c : Thread nD τ)))

abbrev cellP (s : Fin 2) : sProp 𝕄 := semVal ((c : Thread nD τ), SemLoc.dma (csm s).sem) 0
abbrev slotP (s : Fin 2) (f : Buf (Elt F) ((rslot s).view.loc (c : Thread nD τ))) : sProp 𝕄 :=
  (rslot s).view.loc (c : Thread nD τ) ↦[(rslot s).view.set]{fullShare} f
/-- Chunk `b` at home: held on its elements at the weights' contents. -/
abbrev homeP (b : Fin 10) : sProp 𝕄 := (grp b).view.loc (c : Thread nD τ) ↦[(grp b).view.set]{fullShare} XA
/-- Chunk `b`'s bytes as a slot's payload. -/
abbrev payload (b : Fin 10) : S3584x256.Idx → Elt F .i8 := ReadAs.same.apply ((grp b).view.read (Elt F) XA)
/-- What chunk `b`'s transfer leaves in slot `s` over prior contents `f`. -/
abbrev landed (s : Fin 2) (b : Fin 10) (f : Buf (Elt F) ((rslot s).view.loc (c : Thread nD τ))) : Buf (Elt F) ((rslot s).view.loc (c : Thread nD τ)) :=
  (rslot s).view.writes (Elt F) f [⟨Rect.whole S3584x256, payload c XA b⟩]
/-- The units a chunk's transfer moves on its cell. -/
abbrev NN (s : Fin 2) : ℕ := 28672
/-- Slot `s` in flight with chunk `b`, issued over `f`. -/
abbrev flightP (s : Fin 2) (b : Fin 10) (f : Buf (Elt F) ((rslot s).view.loc (c : Thread nD τ))) : sProp 𝕄 :=
  Transfers.Flight countersEmb (c : Thread nD τ) (SemLoc.dma (csm s).sem) () (NN s) iprop(slotP c s (landed c XA s b f) ∗ homeP c XA b)

theorem homes_here (k : ℕ) (hk : k + 1 < 10) :
    bigSep (Ring.homeSet 1 k) (homeP c XA) = iprop(homeP c XA (Ring.bk 10 (k + 1)) ∗ bigSep ((Ring.homeSet 1 k).erase (Ring.bk 10 (k + 1))) (homeP c XA)) := by
  conv_lhs => rw [Ring.homeSet_out 1 k hk, bigSep_insert (Ring.bkL_not_mem_erase 1 k)]
  rfl
theorem homes_next (k : ℕ) (hk : k + 1 < 10) :
    bigSep (Ring.homeSet 1 (k + 1)) (homeP c XA) = iprop(homeP c XA (Ring.bk 10 k) ∗ bigSep ((Ring.homeSet 1 k).erase (Ring.bk 10 (k + 1))) (homeP c XA)) := by
  conv_lhs => rw [Ring.homeSet_succ 1 k hk, bigSep_insert (Ring.bk_not_mem_erase 1 k (by omega) (by decide))]
  rfl
theorem homes_tail (k : ℕ) (hk : k < 10) (h : 10 ≤ k + 1) :
    bigSep (Ring.homeSet 1 (k + 1)) (homeP c XA) = iprop(homeP c XA (Ring.bk 10 k) ∗ bigSep (Ring.homeSet 1 k) (homeP c XA)) := by
  conv_lhs => rw [Ring.homeSet_succ_tail 1 k h hk, bigSep_insert (Ring.bk_not_mem_homeSet 1 k hk (by decide))]
  rfl

omit [FloatOps F] in
theorem sl2_add2 (k : ℕ) : Ring.sl 2 (k + 1 + 1) = Ring.sl 2 k := by rw [show k + 1 + 1 = k + 2 from rfl, Ring.sl_add]

/-- The ring before trip `k`: chunk `k` in flight in slot `k % 2`, the other slot idle, the other
    chunks at home. -/
def ringAt (k : ℕ) : sProp 𝕄 :=
  iprop(bigSep (Ring.homeSet 1 k) (homeP c XA) ∗ (∃ f, flightP c XA (Ring.sl 2 k) (Ring.bk 10 k) f)
    ∗ (∃ f, slotP c (Ring.sl 2 (k + 1)) f) ∗ cellP c (Ring.sl 2 (k + 1)))
/-- The ring after the last trip: everything idle and at home. -/
def ringDone (k : ℕ) : sProp 𝕄 :=
  iprop(bigSep (Ring.homeSet 1 k) (homeP c XA) ∗ (∃ f, slotP c (Ring.sl 2 k) f ∗ cellP c (Ring.sl 2 k))
    ∗ (∃ f, slotP c (Ring.sl 2 (k + 1)) f) ∗ cellP c (Ring.sl 2 (k + 1)))
/-- The ring before trip `k`, the end included. -/
def ringP (k : ℕ) : sProp 𝕄 := if k < 10 then ringAt c XA k else ringDone c XA k

end Pieces

end Cert.Proof.Hra

end

end
-- ==== Proof.Unpack.lean ====
module

public import proofs.«01_k».proof.Defs
public import proofs.«01_k».proof.Proof.Gen.KernelIdeal
public import proofs.«01_k».proof.Proof.Gen.KernelIdeal.Skeleton
public import proofs.«01_k».proof.Proof.Ring
public import Idealize.ShloMosaic.Lib.Pointwise
public import Idealize.ShloMosaic.Lib.ValueLayout
public import Idealize.ShloMosaic.Lib.Tactic

/-!
# One group of the unpacked weights

A packed byte holds two codes: the low nibble belongs to the even row of the pair, the high nibble to
the odd one. A block of 64 packed rows and 256 columns, with its row of scales and its row of zeros,
becomes 128 rows of weights `(code - zero) * scale`.
-/

@[expose] public section

noncomputable section

namespace Cert.Proof.Hra

open Cert.KernelIdeal Cert.KernelIdeal.Gen
open Idealize.ShloMosaic Idealize.ShloMosaic.TcCoe Idealize.ShloMosaic.Tactic

variable {F : FTy → Type} [FloatOps F]

/-- The code a row of parity `p` takes from a packed byte. -/
def codeOf (b : BitVec 8) (p : ℕ) : BitVec 32 :=
  if p < 1 then IntOp.andi (b.setWidth 32) 15#32 else IntOp.shrsi .vector (b.setWidth 32) 4#32

/-- The weight of a byte, a zero, a scale and the row's parity. -/
def wOf (b z : BitVec 8) (s : F .bf16) (p : ℕ) : F .bf16 :=
  FloatOps.mulf (FloatOps.subf (FloatOps.sitofp .bf16 (codeOf b p)) (FloatOps.truncf .bf16 (by decide) (FloatOps.uitofp .f32 z))) s

/-- A group's unpacked block, entry by entry. -/
theorem pay_apply (B : Vec F S1x64x256 .i8) (z : Vec F S1x256 .i8) (s : Vec F S1x256 .bf16) (j : S128x256.Idx) :
    k1_pay50 (F := F) B z s j
      = wOf (F := F) (B (ix3 ⟨0, by decide⟩ ⟨(j 0).val / 2, by have := (j 0).isLt; change (j 0).val < 128 at this; omega⟩ ⟨(j 1).val, (j 1).isLt⟩))
          (z (ix2 ⟨0, by decide⟩ ⟨(j 1).val, (j 1).isLt⟩)) (s (ix2 ⟨0, by decide⟩ ⟨(j 1).val, (j 1).isLt⟩)) ((j 0).val % 2) := by
  pointwise [k1_pay50, wOf, codeOf]
  by_cases h : (j 0).val % 2 < 1
  · rw [dif_pos h, if_pos h]
  · rw [dif_neg h, if_neg h]

/-- The unpacked weights: row `r`, column `n` from the packed bytes, the zeros and the scales. -/
def wval (A : S3584x2560.Idx → BitVec 8) (z : S56x2560.Idx → BitVec 8) (s : S56x2560.Idx → F .bf16) (y : S7168x2560.Idx) : F .bf16 :=
  wOf (F := F) (A (ix2 ⟨(y 0).val / 2, by have := (y 0).isLt; change (y 0).val < 7168 at this; omega⟩ ⟨(y 1).val, (y 1).isLt⟩))
    (z (ix2 ⟨(y 0).val / 128, by have := (y 0).isLt; change (y 0).val < 7168 at this; omega⟩ ⟨(y 1).val, (y 1).isLt⟩))
    (s (ix2 ⟨(y 0).val / 128, by have := (y 0).isLt; change (y 0).val < 7168 at this; omega⟩ ⟨(y 1).val, (y 1).isLt⟩)) ((y 0).val % 2)

/-- Where a slot lies in the buffer. -/
theorem slot_emb (s : Fin 2) (y : S2x3584x256.Idx) (hy : (y 0).val = s.val) :
    (rslot s).view.emb (ix2 ⟨(y 1).val, (y 1).isLt⟩ ⟨(y 2).val, (y 2).isLt⟩) = y := by
  have e : (Shape.reshapeEquiv (s := S1x3584x256) (s' := S3584x256) squeezes_S1x3584x256_S3584x256.numel_eq)
      (ix2 ⟨(y 1).val, (y 1).isLt⟩ ⟨(y 2).val, (y 2).isLt⟩) = ix3 ⟨0, Nat.one_pos⟩ ⟨(y 1).val, (y 1).isLt⟩ ⟨(y 2).val, (y 2).isLt⟩ :=
    Idealize.ShloMosaic.ValueIdx.reshapeEquiv_ix2_1ab _ _ _
  refine (congrArg (Rect.unit (s := S2x3584x256) (slotOff s) S1x3584x256.size (slotOff_inb s)).emb e).trans ?_
  funext a
  fin_cases a
  · refine Fin.ext ?_
    show s.val + 1 * 0 = (y 0).val
    omega
  · refine Fin.ext ?_
    show 0 + 1 * (y 1).val = (y 1).val
    omega
  · refine Fin.ext ?_
    show 0 + 1 * (y 2).val = (y 2).val
    omega

/-- A slot's contents, read through the buffer. -/
theorem slot_read' (s : Fin 2) (f : S2x3584x256.Idx → Elt F .i8) (y : S2x3584x256.Idx) (hy : (y 0).val = s.val) :
    bufM.view.read (Elt F) f y = (rslot s).view.read (Elt F) f (ix2 ⟨(y 1).val, (y 1).isLt⟩ ⟨(y 2).val, (y 2).isLt⟩) := by
  have e := slot_emb s y hy
  refine (congrArg f e.symm).trans ?_
  rfl

/-- A slot written whole, read through the buffer. -/
theorem slot_read (s : Fin 2) (w : S3584x256.Idx → Elt F .i8) (y : S2x3584x256.Idx) (hy : (y 0).val = s.val) :
    bufM.view.read (Elt F) ((rslot s).view.writes (Elt F) (rslot s).view.junk [⟨Rect.whole S3584x256, w⟩]) y
      = w (ix2 ⟨(y 1).val, (y 1).isLt⟩ ⟨(y 2).val, (y 2).isLt⟩) := by
  refine (slot_read' s _ y hy).trans ?_
  have h := View.read_writes_cons_emb (Val := Elt F) (rslot s).view (rslot s).view.junk (Rect.whole S3584x256) w []
    (ix2 ⟨(y 1).val, (y 1).isLt⟩ ⟨(y 2).val, (y 2).isLt⟩)
  rwa [show (Rect.whole S3584x256).emb (ix2 ⟨(y 1).val, (y 1).isLt⟩ ⟨(y 2).val, (y 2).isLt⟩)
      = ix2 ⟨(y 1).val, (y 1).isLt⟩ ⟨(y 2).val, (y 2).isLt⟩ from Rect.emb_whole_apply S3584x256 _] at h

/-- Equal bytes, zeros, scales and parities have equal weights. -/
theorem wOf_congr {b b' z z' : BitVec 8} {s s' : F .bf16} {p p' : ℕ} (hb : b = b') (hz : z = z') (hs : s = s') (hp : p = p') :
    wOf (F := F) b z s p = wOf (F := F) b' z' s' p' := by
  subst hb hz hs hp; rfl

variable (c : Dev nD) (XA : Buf (Elt F) (aM.view.loc (c : Thread nD τ)))
  (arg5 : Memref sig .tc .vmem S56x2560 .bf16) (arg6 : Memref sig .tc .vmem S56x2560 .i8)
  (s5 : Buf (Elt F) (arg5.view.loc (c : Thread nD τ))) (z6 : Buf (Elt F) (arg6.view.loc (c : Thread nD τ)))

/-- The weights, from what the three buffers hold. -/
abbrev wvalB : S7168x2560.Idx → F .bf16 := wval (F := F) XA (arg6.view.read (Elt F) z6) (arg5.view.read (Elt F) s5)

/-- One store of a trip is a block of the weights. -/
theorem piece_ok (k g : ℕ) (hk : k < 10) {o7 : Fin 3 → ℕ} {o8 o9 : Fin 2 → ℕ}
    (e7 : o7 = ![k % 2, 64 * g, 0]) (e8 : o8 = ![g, 256 * k]) (e9 : o9 = ![128 * g, 256 * k])
    (h7 : ∀ a, o7 a + S1x64x256.size a ≤ S2x3584x256.size a) (h8 : ∀ a, o8 a + S1x256.size a ≤ S56x2560.size a)
    (h9 : ∀ a, o9 a + S128x256.size a ≤ S7168x2560.size a) (x : (Rect.unit (s := S7168x2560) o9 S128x256.size h9).shape.Idx) :
    k1_pay50 (F := F)
        (View.readAt (Elt F) bufM.view (Rect.unit (s := S2x3584x256) o7 S1x64x256.size h7).toLoadRect
          ((rslot (Ring.sl 2 k)).view.writes (Elt F) (rslot (Ring.sl 2 k)).view.junk [⟨Rect.whole S3584x256, payload c XA (Ring.bk 10 k)⟩]))
        (View.readAt (Elt F) arg6.view (Rect.unit (s := S56x2560) o8 S1x256.size h8).toLoadRect z6)
        (View.readAt (Elt F) arg5.view (Rect.unit (s := S56x2560) o8 S1x256.size h8).toLoadRect s5) x
      = wvalB c XA arg5 arg6 s5 z6 ((Rect.unit (s := S7168x2560) o9 S128x256.size h9).emb x) := by
  subst e7 e8 e9
  have hx0 : (x 0).val < 128 := (x 0).isLt
  have hx1 : (x 1).val < 256 := (x 1).isLt
  refine (pay_apply _ _ _ x).trans ?_
  unfold wvalB wval
  have p : ((Rect.unit (s := S7168x2560) ![128 * g, 256 * k] S128x256.size h9).emb x 0).val = 128 * g + (x 0).val := by
    show 128 * g + 1 * (x 0).val = _; omega
  have q : ((Rect.unit (s := S7168x2560) ![128 * g, 256 * k] S128x256.size h9).emb x 1).val = 256 * k + (x 1).val := by
    show 256 * k + 1 * (x 1).val = _; omega
  refine wOf_congr ?_ ?_ ?_ ?_
  · refine (slot_read (Ring.sl 2 k) _ _ (by rfl)).trans ?_
    refine congrArg XA ?_
    funext a
    fin_cases a
    · refine Fin.ext ?_
      show 0 + 1 * (64 * g + 1 * ((x 0).val / 2)) = ((Rect.unit (s := S7168x2560) ![128 * g, 256 * k] S128x256.size h9).emb x 0).val / 2
      omega
    · refine Fin.ext ?_
      show 256 * (k % 10) + 1 * (0 + 1 * (x 1).val) = ((Rect.unit (s := S7168x2560) ![128 * g, 256 * k] S128x256.size h9).emb x 1).val
      omega
  · refine congrArg (arg6.view.read (Elt F) z6) ?_
    funext a
    fin_cases a
    · refine Fin.ext ?_
      show g + 1 * 0 = ((Rect.unit (s := S7168x2560) ![128 * g, 256 * k] S128x256.size h9).emb x 0).val / 128
      omega
    · refine Fin.ext ?_
      show 256 * k + 1 * (x 1).val = ((Rect.unit (s := S7168x2560) ![128 * g, 256 * k] S128x256.size h9).emb x 1).val
      omega
  · refine congrArg (arg5.view.read (Elt F) s5) ?_
    funext a
    fin_cases a
    · refine Fin.ext ?_
      show g + 1 * 0 = ((Rect.unit (s := S7168x2560) ![128 * g, 256 * k] S128x256.size h9).emb x 0).val / 128
      omega
    · refine Fin.ext ?_
      show 256 * k + 1 * (x 1).val = ((Rect.unit (s := S7168x2560) ![128 * g, 256 * k] S128x256.size h9).emb x 1).val
      omega
  · omega

/-! ## All the blocks of a trip -/

/-- Piece `p` is block `(g, k)` of `G`: rows `128 g …`, columns `256 k …`. -/
def IsBlock (G : S7168x2560.Idx → F .bf16) (k g : ℕ) (p : View.Piece (Elt F) S7168x2560 .bf16) : Prop :=
  (∀ y : S7168x2560.Idx, y ∈ p.1.set ↔
      (128 * g ≤ (y 0).val ∧ (y 0).val < 128 * g + 128) ∧ 256 * k ≤ (y 1).val ∧ (y 1).val < 256 * k + 256)
    ∧ ∀ x : p.1.shape.Idx, p.2 x = G (p.1.emb x)

/-- The list holds the blocks `(n - 1, k)`, …, `(0, k)` of `G`, in this order. -/
inductive Blocks (G : S7168x2560.Idx → F .bf16) (k : ℕ) : ℕ → List (View.Piece (Elt F) S7168x2560 .bf16) → Prop
  | nil : Blocks G k 0 []
  | cons {n : ℕ} {p : View.Piece (Elt F) S7168x2560 .bf16} {L : List (View.Piece (Elt F) S7168x2560 .bf16)}
      (h : IsBlock G k n p) (hL : Blocks G k n L) : Blocks G k (n + 1) (p :: L)

theorem Blocks.mem {G : S7168x2560.Idx → F .bf16} {k n : ℕ} {L : List (View.Piece (Elt F) S7168x2560 .bf16)} (h : Blocks G k n L) :
    ∀ p ∈ L, ∃ g, IsBlock G k g p := by
  induction h with
  | nil => intro p hp; exact absurd hp List.not_mem_nil
  | cons h _ ih =>
    intro p hp
    rcases List.mem_cons.mp hp with rfl | hp
    · exact ⟨_, h⟩
    · exact ih p hp

theorem Blocks.exists {G : S7168x2560.Idx → F .bf16} {k n : ℕ} {L : List (View.Piece (Elt F) S7168x2560 .bf16)} (h : Blocks G k n L) :
    ∀ g < n, ∃ p ∈ L, IsBlock G k g p := by
  induction h with
  | nil => intro g hg; omega
  | @cons n p L h _ ih =>
    intro g hg
    by_cases e : g = n
    · subst e; exact ⟨p, List.mem_cons_self, h⟩
    · obtain ⟨q, hq, hb⟩ := ih g (by omega)
      exact ⟨q, List.mem_cons_of_mem _ hq, hb⟩

/-- Columns below `256 k` hold `G`. -/
def HoldsTo (G f : S7168x2560.Idx → F .bf16) (k : ℕ) : Prop := ∀ y, (y 1).val < 256 * k → f y = G y

/-- The 56 blocks of trip `k` extend the columns that hold `G`. -/
theorem HoldsTo.step {G : S7168x2560.Idx → F .bf16} {f : S7168x2560.Idx → F .bf16} {k : ℕ}
    {L : List (View.Piece (Elt F) S7168x2560 .bf16)} (hL : Blocks G k 56 L) (h : HoldsTo G f k) :
    HoldsTo G (wM.view.writes (Elt F) f L) (k + 1) := by
  intro y hy
  have hy0 : (y 0).val < 7168 := (y 0).isLt
  by_cases hc : (y 1).val < 256 * k
  · refine Eq.trans ?_ (h y hc)
    refine View.read_writes_apply_of_forall_not_mem (Val := Elt F) wM.view f y L ?_
    intro p hp hm
    obtain ⟨g, hb⟩ := hL.mem p hp
    have := (hb.1 y).mp hm
    omega
  · refine View.read_writes_apply_of_pieces (Val := Elt F) wM.view f G L ?_ y ?_
    · intro p hp
      obtain ⟨g, hb⟩ := hL.mem p hp
      exact hb.2
    · obtain ⟨p, hp, hb⟩ := hL.exists ((y 0).val / 128) (by omega)
      exact ⟨p, hp, (hb.1 y).mpr ⟨by omega, by omega⟩⟩

/-- One store of a trip, as a block. -/
theorem isBlock_piece (k g : ℕ) (hk : k < 10) {o7 : Fin 3 → ℕ} {o8 o9 : Fin 2 → ℕ}
    (e7 : o7 = ![k % 2, 64 * g, 0]) (e8 : o8 = ![g, 256 * k]) (e9 : o9 = ![128 * g, 256 * k])
    (h7 : ∀ a, o7 a + S1x64x256.size a ≤ S2x3584x256.size a) (h8 : ∀ a, o8 a + S1x256.size a ≤ S56x2560.size a)
    (h9 : ∀ a, o9 a + S128x256.size a ≤ S7168x2560.size a) :
    IsBlock (wvalB c XA arg5 arg6 s5 z6) k g
      ⟨Rect.unit (s := S7168x2560) o9 S128x256.size h9,
        k1_pay50 (F := F)
          (View.readAt (Elt F) bufM.view (Rect.unit (s := S2x3584x256) o7 S1x64x256.size h7).toLoadRect
            ((rslot (Ring.sl 2 k)).view.writes (Elt F) (rslot (Ring.sl 2 k)).view.junk [⟨Rect.whole S3584x256, payload c XA (Ring.bk 10 k)⟩]))
          (View.readAt (Elt F) arg6.view (Rect.unit (s := S56x2560) o8 S1x256.size h8).toLoadRect z6)
          (View.readAt (Elt F) arg5.view (Rect.unit (s := S56x2560) o8 S1x256.size h8).toLoadRect s5)⟩ := by
  refine ⟨fun y => ?_, piece_ok c XA arg5 arg6 s5 z6 k g hk e7 e8 e9 h7 h8 h9⟩
  subst e9
  show y ∈ (Rect.unit (s := S7168x2560) ![128 * g, 256 * k] S128x256.size h9).set ↔ _
  rw [Rect.mem_set_unit]
  constructor
  · intro h
    exact ⟨h 0, h 1⟩
  · intro h a
    fin_cases a
    · exact h.1
    · exact h.2

end Cert.Proof.Hra

end

end
-- ==== Proof.Trip.lean ====
module

public import proofs.«01_k».proof.Proof.Unpack

@[expose] public section

noncomputable section

namespace Cert.Proof.Hra

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
local notation "𝕄" => MT nD τ sig Unit (Elt F) ℕ (UU nD τ) ℕ

section Trip

variable (c : Dev nD) (XA : Buf (Elt F) (aM.view.loc (c : Thread nD τ))) (i : grid1.Coords)
  (arg1 : Memref sig .tc .vmem S256x7168 .bf16) (harg1 : arg1.IsWhole) (arg2 : Memref sig .tc .vmem S96x7168 .bf16) (harg2 : arg2.IsWhole)
  (arg3 : Memref sig .tc .vmem S192x7168 .bf16) (harg3 : arg3.IsWhole)
  (arg5 : Memref sig .tc .vmem S56x2560 .bf16) (harg5 : arg5.IsWhole) (arg6 : Memref sig .tc .vmem S56x2560 .i8) (harg6 : arg6.IsWhole)
  (arg7 : Memref sig .tc .vmem S256x2560 .bf16) (harg7 : arg7.IsWhole) (arg8 : Memref sig .tc .vmem S256x7168 .bf16) (harg8 : arg8.IsWhole)
  (h1 : k1_cond1 i = 1#1)

abbrev sP (f : Buf (Elt F) (arg5.view.loc (c : Thread nD τ))) : sProp 𝕄 := arg5.view.loc (c : Thread nD τ) ↦[arg5.view.set]{fullShare} f
abbrev zP (f : Buf (Elt F) (arg6.view.loc (c : Thread nD τ))) : sProp 𝕄 := arg6.view.loc (c : Thread nD τ) ↦[arg6.view.set]{fullShare} f
abbrev wP (f : Buf (Elt F) (wM.view.loc (c : Thread nD τ))) : sProp 𝕄 := wM.view.loc (c : Thread nD τ) ↦[wM.view.set]{fullShare} f

abbrev tripG (k : Fin k1_t1_loop.trips) : Prog (TpuEff nD τ sig (Elt F) Λ₀ .tc) Unit :=
  k1_t1_body (F := F) i arg1 harg1 arg2 harg2 arg3 harg3 aM (Memref.isWhole_whole _) arg5 harg5 arg6 harg6 arg7 harg7 arg8 harg8
    wM (Memref.isWhole_whole _) bufM (Memref.isWhole_whole _) cc1_scratch2 h1 k ()

/-- What a trip needs and leaves beside the ring: the scales and the zeros, read; the weights, their
    columns before trip `k` unpacked. -/
def resAt (s5 : Buf (Elt F) (arg5.view.loc (c : Thread nD τ))) (z6 : Buf (Elt F) (arg6.view.loc (c : Thread nD τ))) (k : ℕ) : sProp 𝕄 :=
  iprop(sP c arg5 s5 ∗ zP c arg6 z6 ∗ (∃ f, wP c f ∗ ⌜HoldsTo (wvalB c XA arg5 arg6 s5 z6) f k⌝)
    ∗ (∃ W, owes (c : Thread nD τ) 0 W) ∗ ringP c XA k)

/-- The prefetch guard: there is a next chunk. -/
theorem cond2_iff : ∀ k : Fin k1_t1_loop.trips, k1_cond2 k = 1#1 ↔ k.val + 1 < 10 := by decide +kernel

set_option maxHeartbeats 4000000 in
/-- A trip that has a next chunk: it starts that chunk's transfer, waits for its own and unpacks it. -/
theorem trip_mid (k : Fin k1_t1_loop.trips) (hc : k1_cond2 k = 1#1) (hk : k.val + 1 < 10) (s5) (z6) :
    resAt c XA arg5 arg6 s5 z6 k ⊢
      wp frame (wpE (defs₀ (F := F)) 𝒱₀ (c : Thread nD τ) none) Set.univ (tripG i arg1 harg1 arg2 harg2 arg3 harg3 arg5 harg5 arg6 harg6 arg7 harg7 arg8 harg8 h1 k)
        (fun _ => resAt c XA arg5 arg6 s5 z6 (k.val + 1)) := by
  have hk10 := trip_lt k
  unfold resAt ringP
  rw [if_pos hk10, if_pos hk]
  unfold ringAt
  rw [homes_here c XA k.val hk, homes_next c XA k.val hk, sl2_add2]
  iintro ⟨HS, HZ, ⟨%w9, HO, %hw⟩, ⟨%W, HW⟩, ⟨Hg, Hrest⟩, ⟨%f0, HF0⟩, ⟨%f1, Hs1⟩, Hc1⟩
  dsimp only [tripG]
  sl_unfold [k1_t1_body]
  sl_exec
  sl_step
  isplitl [HS]; · iexact HS
  isplitl [HZ]; · iexact HZ
  isplitl [HO]
  · iexists _
    isplitl [HO]; · iexact HO
    ipureintro
    refine HoldsTo.step ?_ hw
    iterate 56
      refine Blocks.cons ?_ ?_
      · refine isBlock_piece c XA arg5 arg6 s5 z6 k _ hk10 ?_ ?_ ?_ _ _ _ <;> exact ClosedOff.eq.trans rfl
    exact Blocks.nil
  isplitl [HW]; · iexists _; iexact HW
  isplitl [HF0_src Hrest]
  · isplitl [HF0_src]; · iexact HF0_src
    iexact Hrest
  isplitl [Hc1]; · iexists f1; iexact Hc1
  isplitl [HF0_dst]; · iexists _; iexact HF0_dst
  iexact HF0

set_option maxHeartbeats 4000000 in
/-- The last trip: nothing more to start. -/
theorem trip_last (k : Fin k1_t1_loop.trips) (hc : ¬ k1_cond2 k = 1#1) (hk : ¬ k.val + 1 < 10) (s5) (z6) :
    resAt c XA arg5 arg6 s5 z6 k ⊢
      wp frame (wpE (defs₀ (F := F)) 𝒱₀ (c : Thread nD τ) none) Set.univ (tripG i arg1 harg1 arg2 harg2 arg3 harg3 arg5 harg5 arg6 harg6 arg7 harg7 arg8 harg8 h1 k)
        (fun _ => resAt c XA arg5 arg6 s5 z6 (k.val + 1)) := by
  have hk10 := trip_lt k
  unfold resAt ringP
  rw [if_pos hk10, if_neg hk]
  unfold ringAt ringDone
  rw [homes_tail c XA k.val hk10 (by omega), sl2_add2]
  iintro ⟨HS, HZ, ⟨%w9, HO, %hw⟩, ⟨%W, HW⟩, Hrest, ⟨%f0, HF0⟩, ⟨%f1, Hs1⟩, Hc1⟩
  dsimp only [tripG]
  sl_unfold [k1_t1_body]
  sl_exec
  sl_step
  isplitl [HS]; · iexact HS
  isplitl [HZ]; · iexact HZ
  isplitl [HO]
  · iexists _
    isplitl [HO]; · iexact HO
    ipureintro
    refine HoldsTo.step ?_ hw
    iterate 56
      refine Blocks.cons ?_ ?_
      · refine isBlock_piece c XA arg5 arg6 s5 z6 k _ hk10 ?_ ?_ ?_ _ _ _ <;> exact ClosedOff.eq.trans rfl
    exact Blocks.nil
  isplitl [HW]; · iexists _; iexact HW
  isplitl [HF0_src Hrest]
  · isplitl [HF0_src]; · iexact HF0_src
    iexact Hrest
  isplitl [Hs1 Hc1]
  · iexists f1; isplitl [Hs1]; · iexact Hs1
    iexact Hc1
  isplitl [HF0_dst]; · iexists _; iexact HF0_dst
  iexact HF0

/-- Any trip. -/
theorem trip_step (k : Fin k1_t1_loop.trips) (s5) (z6) :
    resAt c XA arg5 arg6 s5 z6 k ⊢
      wp frame (wpE (defs₀ (F := F)) 𝒱₀ (c : Thread nD τ) none) Set.univ (tripG i arg1 harg1 arg2 harg2 arg3 harg3 arg5 harg5 arg6 harg6 arg7 harg7 arg8 harg8 h1 k)
        (fun _ => resAt c XA arg5 arg6 s5 z6 (k.val + 1)) :=
  if hk : k.val + 1 < 10 then
    trip_mid c XA i arg1 harg1 arg2 harg2 arg3 harg3 arg5 harg5 arg6 harg6 arg7 harg7 arg8 harg8 h1 k ((cond2_iff k).mpr hk) hk s5 z6
  else
    trip_last c XA i arg1 harg1 arg2 harg2 arg3 harg3 arg5 harg5 arg6 harg6 arg7 harg7 arg8 harg8 h1 k (fun h => hk ((cond2_iff k).mp h)) hk s5 z6

set_option warn.classDefReducibility false in
/-- The loop's invariant. -/
@[sl_loop] def loopInv (s5 : Buf (Elt F) (arg5.view.loc (c : Thread nD τ))) (z6 : Buf (Elt F) (arg6.view.loc (c : Thread nD τ))) :
    LoopInvTy_k1_t1 (F := F) Unit ℕ (UU nD τ) ℕ 𝒱₀ c none Set.univ i arg1 harg1 arg2 harg2 arg3 harg3 aM (Memref.isWhole_whole _) arg5 harg5 arg6 harg6
      arg7 harg7 arg8 harg8 wM (Memref.isWhole_whole _) bufM (Memref.isWhole_whole _) cc1_scratch2 h1 where
  inv k _ := resAt c XA arg5 arg6 s5 z6 k
  step k _ := by
    iintro H
    iapply (wp_wand_r Idealize.ShloMosaic.frame (wpE (defs₀ (F := F)) 𝒱₀ (c : Thread nD τ) none) Set.univ)
    isplitl [H]
    · iapply (trip_step c XA i arg1 harg1 arg2 harg2 arg3 harg3 arg5 harg5 arg6 harg6 arg7 harg7 arg8 harg8 h1 k s5 z6)
      iexact H
    · iintro %_ H'
      iexact H'

end Trip

end Cert.Proof.Hra

end

end
-- ==== Proof.PrepRegion.lean ====
/-
The preparing call on any contents.

The first call of the program turns the 32 reflection vectors into two small tables: the unit vectors and
the products of the triangular factor with them, each split into three parts. This module runs its body
on arbitrary staging buffers, names what the body leaves in its two output windows, and states the proof
data of its one-point pipeline at any contents `V` of the buffers.
-/
module

public import proofs.«01_k».proof.Proof.Ring
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Hra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

variable (m : (ℓ : Loc nD τ sig) → Buf (Elt F) ℓ) (ρ : Dev nD → PrngReg)
section Regions
-- the TensorCore's buffer contents when a region is entered: the parameter every region's half is stated at, which
-- the run instantiates per region
variable (V : (c : Dev nD) → (b : Ref sig .tc) → Buf (Elt F) ((c : Thread nD τ).loc b))

/-! # REGION 0 of @main: custom_call 0, `cc0_hra_prep` (pipeline 0), at the entry contents `V` — class R -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UU nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The kernel body on any staging memrefs: a subtype the run finds -/

/-- One staging buffer of output window 1, through which its contents are stated (`View.read_writes_of_cover`: the
    choice does not matter). -/
abbrev VO0_1 : View sig .tc .vmem S192x7168 .bf16 := (Memref.whole cc0_stg1_0 : Memref sig .tc .vmem S192x7168 .bf16).view
/-- One staging buffer of output window 2, through which its contents are stated (`View.read_writes_of_cover`: the
    choice does not matter). -/
abbrev VO0_2 : View sig .tc .vmem S96x7168 .bf16 := (Memref.whole cc0_stg2_0 : Memref sig .tc .vmem S96x7168 .bf16).view
/-- Each window's current staging memref at point `t`, spelled as the pipeline passes it (`bodyAt0`), and its wholeness. -/
abbrev ms0_0 (t : Fin cfg0.N) : Memref sig .tc .vmem S32x7168 .f32 := win0_0.stage (cfg0.slots t 0)
abbrev hs0_0 (t : Fin cfg0.N) : (ms0_0 t).IsWhole := hstage0_0 0
abbrev ms0_1 (t : Fin cfg0.N) : Memref sig .tc .vmem S192x7168 .bf16 := win0_1.stage (cfg0.slots t 1)
abbrev hs0_1 (t : Fin cfg0.N) : (ms0_1 t).IsWhole := hstage0_1 0
abbrev ms0_2 (t : Fin cfg0.N) : Memref sig .tc .vmem S96x7168 .bf16 := win0_2.stage (cfg0.slots t 2)
abbrev hs0_2 (t : Fin cfg0.N) : (ms0_2 t).IsWhole := hstage0_2 0
/-- The scratch operands: whole scoped buffers of the kernel's own, passed beside the windows. -/
abbrev scM0_0 : Memref sig .tc .vmem S32x32 .f32 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f)) ∗ (∃ r, prngReg c r)) := by
  unfold Pipeline.ΦA; rw [scopedRest0_eq]; simp only [scM0_0, owns_whole]; try rfl

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    a scratch it stored into and does not carry with its pieces (`LT·`) written over some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (arg0 : Memref sig .tc .vmem S32x7168 .f32) (harg0 : arg0.IsWhole) (arg1 : Memref sig .tc .vmem S192x7168 .bf16) (harg1 : arg1.IsWhole) (arg2 : Memref sig .tc .vmem S96x7168 .bf16) (harg2 : arg2.IsWhole) (arg3 : Memref sig .tc .vmem S32x32 .f32) (harg3 : arg3.IsWhole)
    (x0 : Vec F S32x7168 .f32) :
    Σ' (L1 : List (View.Piece (Elt F) S192x7168 .bf16)), Σ' (L2 : List (View.Piece (Elt F) S96x7168 .bf16)), { LT0 : List (View.Piece (Elt F) S32x32 .f32) //
      ∀ (E : Set ℕ) (K : PUnit → sProp 𝕄),
        iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d)
            ∗ (iprop(owns (c : Thread nD τ) arg0 fullShare x0 ∗ (∃ f, arg1.view.loc (c : Thread nD τ) ↦[arg1.view.set]{fullShare} arg1.view.writes (Elt F) f L1) ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f LT0)) -∗ K ⟨⟩))
          ⊢ wp frame (wpE (defs₀ (F := F)) Variants.none c none) E (cc0_hra_prep arg0 harg0 arg1 harg1 arg2 harg2 arg3 harg3) K } := by
  refine ⟨?_, ?_, ?_, fun E K => ?run⟩
  case run =>
    simp only [cc0_hra_prep_eq_skeleton]; unfold cc0_hra_prep_skel
    simp only [k0_part16_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton]
    unfold owns
    iintro ⟨⟨%f0, %hf0, H0⟩, ⟨%d1, %f1, -, H1⟩, ⟨%d2, %f2, -, H2⟩, ⟨%ds0, %fs0, -, HS0⟩, Hk⟩
    obtain rfl := harg0.eq_unread hf0
    sl_exec
    sl_step
    iapply Hk
    isplitl [H0]
    · iexists _; isplitr; · ipureintro; exact harg0.read_unread _
      iexact H0
    isplitl [H1]; · iexists _; iexact H1
    isplitl [H2]; · iexists _; iexact H2
    iexists _; iexact HS0

/-- The run's pieces for output 1 tile its block (1 store of `S192x7168`, checked by the kernel's evaluation: Lib/Ring.lean `Piece.tiledL`, linear in the pieces, through a loop's `@[irreducible]` trip theorem too), so they cover it. -/
theorem cover0_A_1 (c : Dev nD) (arg0 : Memref sig .tc .vmem S32x7168 .f32) (harg0 : arg0.IsWhole) (arg1 : Memref sig .tc .vmem S192x7168 .bf16) (harg1 : arg1.IsWhole) (arg2 : Memref sig .tc .vmem S96x7168 .bf16) (harg2 : arg2.IsWhole) (arg3 : Memref sig .tc .vmem S32x32 .f32) (harg3 : arg3.IsWhole)
    (x0 : Vec F S32x7168 .f32) (y : S192x7168.Idx) :
    ∃ pc ∈ (kernelRun0_A c arg0 harg0 arg1 harg1 arg2 harg2 arg3 harg3 x0).1, y ∈ pc.1.set :=
  View.cover_of_tiledL (kernelRun0_A c arg0 harg0 arg1 harg1 arg2 harg2 arg3 harg3 x0).1 S192x7168.size (by sl_kernel_rfl) y

/-- What the run leaves in output 1's staging buffer: its pieces read back over junk. -/
def out0_A_1 (c : Dev nD) (arg0 : Memref sig .tc .vmem S32x7168 .f32) (harg0 : arg0.IsWhole) (arg1 : Memref sig .tc .vmem S192x7168 .bf16) (harg1 : arg1.IsWhole) (arg2 : Memref sig .tc .vmem S96x7168 .bf16) (harg2 : arg2.IsWhole) (arg3 : Memref sig .tc .vmem S32x32 .f32) (harg3 : arg3.IsWhole)
    (x0 : Vec F S32x7168 .f32) : Vec F S192x7168 .bf16 :=
  VO0_1.read (Elt F) (VO0_1.writes (Elt F) VO0_1.junk (kernelRun0_A c arg0 harg0 arg1 harg1 arg2 harg2 arg3 harg3 x0).1)

/-- The run's pieces for output 2 tile its block (1 store of `S96x7168`, checked by the kernel's evaluation: Lib/Ring.lean `Piece.tiledL`, linear in the pieces, through a loop's `@[irreducible]` trip theorem too), so they cover it. -/
theorem cover0_A_2 (c : Dev nD) (arg0 : Memref sig .tc .vmem S32x7168 .f32) (harg0 : arg0.IsWhole) (arg1 : Memref sig .tc .vmem S192x7168 .bf16) (harg1 : arg1.IsWhole) (arg2 : Memref sig .tc .vmem S96x7168 .bf16) (harg2 : arg2.IsWhole) (arg3 : Memref sig .tc .vmem S32x32 .f32) (harg3 : arg3.IsWhole)
    (x0 : Vec F S32x7168 .f32) (y : S96x7168.Idx) :
    ∃ pc ∈ (kernelRun0_A c arg0 harg0 arg1 harg1 arg2 harg2 arg3 harg3 x0).2.1, y ∈ pc.1.set :=
  View.cover_of_tiledL (kernelRun0_A c arg0 harg0 arg1 harg1 arg2 harg2 arg3 harg3 x0).2.1 S96x7168.size (by sl_kernel_rfl) y

/-- What the run leaves in output 2's staging buffer: its pieces read back over junk. -/
def out0_A_2 (c : Dev nD) (arg0 : Memref sig .tc .vmem S32x7168 .f32) (harg0 : arg0.IsWhole) (arg1 : Memref sig .tc .vmem S192x7168 .bf16) (harg1 : arg1.IsWhole) (arg2 : Memref sig .tc .vmem S96x7168 .bf16) (harg2 : arg2.IsWhole) (arg3 : Memref sig .tc .vmem S32x32 .f32) (harg3 : arg3.IsWhole)
    (x0 : Vec F S32x7168 .f32) : Vec F S96x7168 .bf16 :=
  VO0_2.read (Elt F) (VO0_2.writes (Elt F) VO0_2.junk (kernelRun0_A c arg0 harg0 arg1 harg1 arg2 harg2 arg3 harg3 x0).2.1)

/-! ## What the outputs hold after each point -/

/-- What the outputs' staging buffers hold after the body at point `t` (as a tuple, in window order): the run's contents at
    the point's memrefs and input blocks. -/
def outsAt0 (c : Dev nD) (t : Fin cfg0.N) : Vec F S192x7168 .bf16 × Vec F S96x7168 .bf16 :=
  (out0_A_1 c (ms0_0 t) (hs0_0 t) (ms0_1 t) (hs0_1 t) (ms0_2 t) (hs0_2 t) scM0_0 (Memref.isWhole_whole _) (iblk0 V c 0 t), out0_A_2 c (ms0_0 t) (hs0_0 t) (ms0_1 t) (hs0_1 t) (ms0_2 t) (hs0_2 t) scM0_0 (Memref.isWhole_whole _) (iblk0 V c 0 t))

/-! ## The pipeline's proof data -/

/-- The proof data of pipeline 0 on core `c`: the arrays as the region finds them (`V`); after the body at
    point `t` each input's buffer at its block and the outputs' at `outsAt0`; the invariant the class's
    (Lib/Pipeline/Frame.lean `ΦA`: the scoped rest and the generator register); nothing owed; full shares. -/
def dat0 (c : Dev nD) : Dat τ (Elt F) Unit ℕ (UU nD τ) ℕ cfg0 c where
  A w := V c (Pipeline.arrRef spec0 w)
  after w t := match w with
    | ⟨0, _⟩ => iblk0 V c 0 t
    | ⟨1, _⟩ => (outsAt0 V c t).1
    | ⟨2, _⟩ => (outsAt0 V c t).2
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = (outsAt0 V c t).1 := by dsimp only [dat0]
theorem after0_2 (c : Dev nD) (t : Fin cfg0.N) : (dat0 V c).after 2 t = (outsAt0 V c t).2 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

/-- The body at any point: the inputs' memrefs hold their blocks (`before0_W`); so the
    run applies; the invariant hands the body its scratch buffers at some contents (and the generator register) and takes them back at some contents (`PhiA_eq`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1, after0_2]
  rw [show (dat0 V c).Φ t.castSucc = Pipeline.ΦA spec0 c from rfl, PhiA0_eq]
  unfold outsAt0
  unfold out0_A_1 out0_A_2; (try dsimp only)
  iintro ⟨⟨⟨HS0, HR1, HR2, HR3, HR4, HR5, HR6, HR7, HR8, HR9, HR10, HR11, HR12⟩, Hg⟩, Ho, ⟨%d0, H0⟩, ⟨%d1, H1⟩, ⟨%d2, H2⟩⟩
  iapply ((kernelRun0_A c _ _ _ _ _ _ _ _ (iblk0 V c 0 t)).2.2.2 Set.univ _)
  isplitl [H0]; · iexact H0
  isplitl [H1]; · iexists _; iexact H1
  isplitl [H2]; · iexists _; iexact H2
  isplitl [HS0]; · iexact HS0
  iintro ⟨H0, ⟨%e1, H1⟩, ⟨%e2, H2⟩, ⟨%fT0, HS0⟩⟩
  isplitl [HS0 HR1 HR2 HR3 HR4 HR5 HR6 HR7 HR8 HR9 HR10 HR11 HR12 Hg]
  · isplitl [HS0 HR1 HR2 HR3 HR4 HR5 HR6 HR7 HR8 HR9 HR10 HR11 HR12]
    · isplitl [HS0]
      · iexists _; unfold owns; iexists _; isplitr
        swap; · iexact HS0
        ipureintro; rfl
      isplitl [HR1]
      · iexact HR1
      isplitl [HR2]
      · iexact HR2
      isplitl [HR3]
      · iexact HR3
      isplitl [HR4]
      · iexact HR4
      isplitl [HR5]
      · iexact HR5
      isplitl [HR6]
      · iexact HR6
      isplitl [HR7]
      · iexact HR7
      isplitl [HR8]
      · iexact HR8
      isplitl [HR9]
      · iexact HR9
      isplitl [HR10]
      · iexact HR10
      isplitl [HR11]
      · iexact HR11
      iexact HR12
    iexact Hg
  isplitl [Ho]; · iexact Ho
  isplitl [H0]; · iexact H0
  isplitl [H1]
  · unfold owns; iexists _; isplitr
    swap; · iexact H1
    ipureintro; exact View.read_writes_of_cover _ _ _ _ _ (cover0_A_1 c _ _ _ _ _ _ _ _ _)
  unfold owns; iexists _; isplitr
  swap; · iexact H2
  ipureintro; exact View.read_writes_of_cover _ _ _ _ _ (cover0_A_2 c _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.Proof.Hra

end

end
-- ==== Proof.MainBody.lean ====
/-
The main call's body on any contents.

The body of the main call, at a grid point, on arbitrary staging buffers: at the points after the first the
weights are already unpacked (`runRest`), at the first point the ring of transfers unpacks them (`runFirst`).
-/
module

public import proofs.«01_k».proof.Proof.Trip
public import proofs.«01_k».proof.Proof.PrepRegion
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Hra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Body

variable (c : Dev nD) (i : grid1.Coords)
  (arg1 : Memref sig .tc .vmem S256x7168 .bf16) (harg1 : arg1.IsWhole) (arg2 : Memref sig .tc .vmem S96x7168 .bf16) (harg2 : arg2.IsWhole)
  (arg3 : Memref sig .tc .vmem S192x7168 .bf16) (harg3 : arg3.IsWhole)
  (arg5 : Memref sig .tc .vmem S56x2560 .bf16) (harg5 : arg5.IsWhole) (arg6 : Memref sig .tc .vmem S56x2560 .i8) (harg6 : arg6.IsWhole)
  (arg7 : Memref sig .tc .vmem S256x2560 .bf16) (harg7 : arg7.IsWhole) (arg8 : Memref sig .tc .vmem S256x7168 .bf16) (harg8 : arg8.IsWhole)

/-- The body on the given staging buffers, the unpacked weights, the packed ones and the ring its own. -/
abbrev bodyG : Prog (TpuEff nD τ sig (Elt F) Λ₀ .tc) PUnit :=
  cc1_hra_main i arg1 harg1 arg2 harg2 arg3 harg3 aM (Memref.isWhole_whole _) arg5 harg5 arg6 harg6 arg7 harg7 arg8 harg8
    wM (Memref.isWhole_whole _) bufM (Memref.isWhole_whole _) cc1_scratch2

/-- What the body stores into its second output, seven column blocks of 1024, last first: the input less its
    correction. -/
def zbPieces (x0 : Vec F S256x7168 .bf16) (x1 : Vec F S96x7168 .bf16) (x2 : Vec F S192x7168 .bf16) :
    List (View.Piece (Elt F) S256x7168 .bf16) :=
    [ ⟨Rect.unit (s := S256x7168) ![0, 6144] S256x1024.size inb_S256x7168_S256x1024_0_6144,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 6144] S192x1024.size inb_S192x7168_S192x1024_0_6144).toLoadRect (harg3.unread x2))
          (arg1.view.readAt (Elt F) (Rect.unit (s := S256x7168) ![0, 6144] S256x1024.size inb_S256x7168_S256x1024_0_6144).toLoadRect (harg1.unread x0))⟩,
      ⟨Rect.unit (s := S256x7168) ![0, 5120] S256x1024.size inb_S256x7168_S256x1024_0_5120,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 5120] S192x1024.size inb_S192x7168_S192x1024_0_5120).toLoadRect (harg3.unread x2))
          (arg1.view.readAt (Elt F) (Rect.unit (s := S256x7168) ![0, 5120] S256x1024.size inb_S256x7168_S256x1024_0_5120).toLoadRect (harg1.unread x0))⟩,
      ⟨Rect.unit (s := S256x7168) ![0, 4096] S256x1024.size inb_S256x7168_S256x1024_0_4096,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 4096] S192x1024.size inb_S192x7168_S192x1024_0_4096).toLoadRect (harg3.unread x2))
          (arg1.view.readAt (Elt F) (Rect.unit (s := S256x7168) ![0, 4096] S256x1024.size inb_S256x7168_S256x1024_0_4096).toLoadRect (harg1.unread x0))⟩,
      ⟨Rect.unit (s := S256x7168) ![0, 3072] S256x1024.size inb_S256x7168_S256x1024_0_3072,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 3072] S192x1024.size inb_S192x7168_S192x1024_0_3072).toLoadRect (harg3.unread x2))
          (arg1.view.readAt (Elt F) (Rect.unit (s := S256x7168) ![0, 3072] S256x1024.size inb_S256x7168_S256x1024_0_3072).toLoadRect (harg1.unread x0))⟩,
      ⟨Rect.unit (s := S256x7168) ![0, 2048] S256x1024.size inb_S256x7168_S256x1024_0_2048,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 2048] S192x1024.size inb_S192x7168_S192x1024_0_2048).toLoadRect (harg3.unread x2))
          (arg1.view.readAt (Elt F) (Rect.unit (s := S256x7168) ![0, 2048] S256x1024.size inb_S256x7168_S256x1024_0_2048).toLoadRect (harg1.unread x0))⟩,
      ⟨Rect.unit (s := S256x7168) ![0, 1024] S256x1024.size inb_S256x7168_S256x1024_0_1024,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 1024] S192x1024.size inb_S192x7168_S192x1024_0_1024).toLoadRect (harg3.unread x2))
          (arg1.view.readAt (Elt F) (Rect.unit (s := S256x7168) ![0, 1024] S256x1024.size inb_S256x7168_S256x1024_0_1024).toLoadRect (harg1.unread x0))⟩,
      ⟨Rect.unit (s := S256x7168) ![0, 0] S256x1024.size inb_S256x7168_S256x1024_0_0,
        k1_pay109
          (arg1.view.readAt (Elt F) (Rect.unit (s := S256x7168) ![0, 0] S256x7168.size inb_S256x7168_S256x7168_0_0).toLoadRect (harg1.unread x0))
          (arg2.view.readAt (Elt F) (Rect.unit (s := S96x7168) ![0, 0] S96x7168.size inb_S96x7168_S96x7168_0_0).toLoadRect (harg2.unread x1))
          (arg3.view.readAt (Elt F) (Rect.unit (s := S192x7168) ![0, 0] S192x1024.size inb_S192x7168_S192x1024_0_0).toLoadRect (harg3.unread x2))
          (arg1.view.readAt (Elt F) (Rect.unit (s := S256x7168) ![0, 0] S256x1024.size inb_S256x7168_S256x1024_0_0).toLoadRect (harg1.unread x0))⟩ ]

/-- What the body stores into its first output, five column blocks of 512, last first: the second output, read
    back, against the unpacked weights. -/
def yPieces (x0 : Vec F S256x7168 .bf16) (x1 : Vec F S96x7168 .bf16) (x2 : Vec F S192x7168 .bf16)
    (wf : Buf (Elt F) (wM.view.loc (c : Thread nD τ))) : List (View.Piece (Elt F) S256x2560 .bf16) :=
    [ ⟨Rect.unit (s := S256x2560) ![0, 2048] S256x512.size inb_S256x2560_S256x512_0_2048,
        k1_pay1
          (arg8.view.readCov (zbPieces arg1 harg1 arg2 harg2 arg3 harg3 x0 x1 x2)
            (Rect.unit (s := S256x7168) ![0, 0] S256x7168.size inb_S256x7168_S256x7168_0_0).toLoadRect)
          (wM.view.readAt (Elt F) (Rect.unit (s := S7168x2560) ![0, 2048] S7168x512.size inb_S7168x2560_S7168x512_0_2048).toLoadRect wf)⟩,
      ⟨Rect.unit (s := S256x2560) ![0, 1536] S256x512.size inb_S256x2560_S256x512_0_1536,
        k1_pay1
          (arg8.view.readCov (zbPieces arg1 harg1 arg2 harg2 arg3 harg3 x0 x1 x2)
            (Rect.unit (s := S256x7168) ![0, 0] S256x7168.size inb_S256x7168_S256x7168_0_0).toLoadRect)
          (wM.view.readAt (Elt F) (Rect.unit (s := S7168x2560) ![0, 1536] S7168x512.size inb_S7168x2560_S7168x512_0_1536).toLoadRect wf)⟩,
      ⟨Rect.unit (s := S256x2560) ![0, 1024] S256x512.size inb_S256x2560_S256x512_0_1024,
        k1_pay1
          (arg8.view.readCov (zbPieces arg1 harg1 arg2 harg2 arg3 harg3 x0 x1 x2)
            (Rect.unit (s := S256x7168) ![0, 0] S256x7168.size inb_S256x7168_S256x7168_0_0).toLoadRect)
          (wM.view.readAt (Elt F) (Rect.unit (s := S7168x2560) ![0, 1024] S7168x512.size inb_S7168x2560_S7168x512_0_1024).toLoadRect wf)⟩,
      ⟨Rect.unit (s := S256x2560) ![0, 512] S256x512.size inb_S256x2560_S256x512_0_512,
        k1_pay1
          (arg8.view.readCov (zbPieces arg1 harg1 arg2 harg2 arg3 harg3 x0 x1 x2)
            (Rect.unit (s := S256x7168) ![0, 0] S256x7168.size inb_S256x7168_S256x7168_0_0).toLoadRect)
          (wM.view.readAt (Elt F) (Rect.unit (s := S7168x2560) ![0, 512] S7168x512.size inb_S7168x2560_S7168x512_0_512).toLoadRect wf)⟩,
      ⟨Rect.unit (s := S256x2560) ![0, 0] S256x512.size inb_S256x2560_S256x512_0_0,
        k1_pay1
          (arg8.view.readCov (zbPieces arg1 harg1 arg2 harg2 arg3 harg3 x0 x1 x2)
            (Rect.unit (s := S256x7168) ![0, 0] S256x7168.size inb_S256x7168_S256x7168_0_0).toLoadRect)
          (wM.view.readAt (Elt F) (Rect.unit (s := S7168x2560) ![0, 0] S7168x512.size inb_S7168x2560_S7168x512_0_0).toLoadRect wf)⟩ ]

set_option maxHeartbeats 4000000 in
/-- A point after the first: the weights are unpacked already. -/
theorem runRest (hc : ¬ k1_cond1 i = 1#1) (x0 : Vec F S256x7168 .bf16) (x1 : Vec F S96x7168 .bf16) (x2 : Vec F S192x7168 .bf16)
    (wf : Buf (Elt F) (wM.view.loc (c : Thread nD τ))) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg7 fullShare d) ∗ (∃ d, owns (c : Thread nD τ) arg8 fullShare d) ∗ wP c wf
        ∗ (iprop(owns (c : Thread nD τ) arg1 fullShare x0 ∗ owns (c : Thread nD τ) arg2 fullShare x1 ∗ owns (c : Thread nD τ) arg3 fullShare x2
          ∗ (∃ f, arg7.view.loc (c : Thread nD τ) ↦[arg7.view.set]{fullShare} arg7.view.writes (Elt F) f (yPieces c arg1 harg1 arg2 harg2 arg3 harg3 arg8 x0 x1 x2 wf))
          ∗ (∃ f, arg8.view.loc (c : Thread nD τ) ↦[arg8.view.set]{fullShare} arg8.view.writes (Elt F) f (zbPieces arg1 harg1 arg2 harg2 arg3 harg3 x0 x1 x2)) ∗ wP c wf) -∗ K ⟨⟩))
      ⊢ wp frame (wpE (defs₀ (F := F)) 𝒱₀ (c : Thread nD τ) none) Set.univ
          (bodyG i arg1 harg1 arg2 harg2 arg3 harg3 arg5 harg5 arg6 harg6 arg7 harg7 arg8 harg8) K := by
  dsimp only [bodyG]
  simp only [cc1_hra_main_eq_skeleton]; unfold cc1_hra_main_skel
  simp only [k1_part34_eq_skeleton, k1_part35_eq_skeleton, k1_part36_eq_skeleton]
  unfold owns
  iintro ⟨⟨%f0, %hf0, H0⟩, ⟨%f1, %hf1, H1⟩, ⟨%f2, %hf2, H2⟩, ⟨%d5, %f5, -, H5⟩, ⟨%d6, %f6, -, H6⟩, HWt, Hk⟩
  obtain rfl := harg1.eq_unread hf0; obtain rfl := harg2.eq_unread hf1; obtain rfl := harg3.eq_unread hf2
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H5]; · iexists _; iexact H5
  isplitl [H6]; · iexists _; iexact H6
  iexact HWt

/-- Step 0 uses slot 0. -/
theorem sl2_0 : Ring.sl 2 0 = 0 := Fin.ext (by rfl)
/-- The step after it uses slot 1. -/
theorem sl2_1 : Ring.sl 2 (0 + 1) = 1 := Fin.ext (by rfl)
/-- Step 0 takes column block 0. -/
theorem bk10_0 : Ring.bk 10 0 = 0 := Fin.ext (by rfl)

set_option maxHeartbeats 4000000 in
attribute [local sl_canon] sl2_0 sl2_1 bk10_0 in
/-- The first point: the ring brings the packed weights in and they are unpacked. -/
theorem runFirst (XA : Buf (Elt F) (aM.view.loc (c : Thread nD τ))) (h1 : k1_cond1 i = 1#1) (x0 : Vec F S256x7168 .bf16) (x1 : Vec F S96x7168 .bf16) (x2 : Vec F S192x7168 .bf16)
    (x5 : Vec F S56x2560 .bf16) (x6 : Vec F S56x2560 .i8) (W : Waits sig Unit) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg5 fullShare x5 ∗ owns (c : Thread nD τ) arg6 fullShare x6
        ∗ (∃ d, owns (c : Thread nD τ) arg7 fullShare d) ∗ (∃ d, owns (c : Thread nD τ) arg8 fullShare d) ∗ (∃ f, wP c f)
        ∗ homeP c XA 0 ∗ bigSep (Ring.homeSet 1 0) (homeP c XA) ∗ (∃ f, slotP c 0 f) ∗ (∃ f, slotP c 1 f) ∗ cellP c 0 ∗ cellP c 1 ∗ owes (c : Thread nD τ) 0 W
        ∗ (iprop(owns (c : Thread nD τ) arg1 fullShare x0 ∗ owns (c : Thread nD τ) arg2 fullShare x1 ∗ owns (c : Thread nD τ) arg3 fullShare x2
          ∗ owns (c : Thread nD τ) arg5 fullShare x5 ∗ owns (c : Thread nD τ) arg6 fullShare x6
          ∗ (∃ f, arg7.view.loc (c : Thread nD τ) ↦[arg7.view.set]{fullShare} arg7.view.writes (Elt F) f (yPieces c arg1 harg1 arg2 harg2 arg3 harg3 arg8 x0 x1 x2 (wvalB c XA arg5 arg6 (harg5.unread x5) (harg6.unread x6))))
          ∗ (∃ f, arg8.view.loc (c : Thread nD τ) ↦[arg8.view.set]{fullShare} arg8.view.writes (Elt F) f (zbPieces arg1 harg1 arg2 harg2 arg3 harg3 x0 x1 x2)) ∗ wP c (wvalB c XA arg5 arg6 (harg5.unread x5) (harg6.unread x6))
          ∗ ringDone c XA 10 ∗ (∃ W, owes (c : Thread nD τ) 0 W)) -∗ K ⟨⟩))
      ⊢ wp frame (wpE (defs₀ (F := F)) 𝒱₀ (c : Thread nD τ) none) Set.univ
          (bodyG i arg1 harg1 arg2 harg2 arg3 harg3 arg5 harg5 arg6 harg6 arg7 harg7 arg8 harg8) K := by
  dsimp only [bodyG]
  simp only [cc1_hra_main_eq_skeleton]; unfold cc1_hra_main_skel
  simp only [k1_part34_eq_skeleton, k1_part35_eq_skeleton, k1_part36_eq_skeleton]
  unfold owns
  have ht : Scf.trips k1_t1_loop.lb k1_t1_loop.ub k1_t1_loop.st = 10 := by decide +kernel
  rw [show ringDone c XA 10 = ringDone c XA (Scf.trips k1_t1_loop.lb k1_t1_loop.ub k1_t1_loop.st) from by rw [ht]]
  unfold ringDone
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%w9, HWt⟩, Hg0, Hh, ⟨%fs0, Hs0⟩, ⟨%fs1, Hs1⟩, Hc0, Hc1, HW, Hk⟩
  obtain rfl := harg1.eq_unread hf0; obtain rfl := harg2.eq_unread hf1; obtain rfl := harg3.eq_unread hf2
  obtain rfl := harg5.eq_unread hf3; obtain rfl := harg6.eq_unread hf4
  have hw0 : HoldsTo (wvalB c XA arg5 arg6 (harg5.unread x5) (harg6.unread x6)) w9 0 := fun y h => absurd h (by omega)
  sl_exec
  obtain rfl : fL0 = wvalB c XA arg5 arg6 (harg5.unread x5) (harg6.unread x6) :=
    funext fun y => hL3 y (by rw [ht]; exact (y 1).isLt)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg5.read_unread _
    iexact H3
  isplitl [H4]
  · iexists _; isplitr; · ipureintro; exact harg6.read_unread _
    iexact H4
  isplitl [H5]; · iexists _; iexact H5
  isplitl [H6]; · iexists _; iexact H6
  isplitl [HWt]; · iexact HWt
  isplitl [Hh Hc0 Hs1 Hc1]
  · isplitl [Hh]; · iexact Hh
    isplitl [Hc0]; · iexists _; iexact Hc0
    isplitl [Hs1]; · iexists _; iexact Hs1
    iexact Hc1
  iexists _; iexact HW

end Body

end Cert.Proof.Hra

end

end
-- ==== Proof.MainRegion.lean ====
/-
The main call's pipeline.

The proof data of the 36-point pipeline of the main call at any contents `V` of the buffers, its invariant (the
weights are unpacked once the first point is over), and the body's obligation at every point.
-/
module

public import proofs.«01_k».proof.Proof.MainBody
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Hra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

section Regions
-- the buffers' contents when a region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UU nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UU nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UU nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_3_of {c : Dev nD} (dat : Dat τ (Elt F) Unit ℕ (UU nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_4_of {c : Dev nD} (dat : Dat τ (Elt F) Unit ℕ (UU nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The kernel body on any staging memrefs: a subtype the run finds -/

/-- One staging buffer of output window 5, through which its contents are stated (`View.read_writes_of_cover`: the
    choice does not matter). -/
abbrev VO1_5 : View sig .tc .vmem S256x2560 .bf16 := (Memref.whole cc1_stg5_0 : Memref sig .tc .vmem S256x2560 .bf16).view
/-- One staging buffer of output window 6, through which its contents are stated (`View.read_writes_of_cover`: the
    choice does not matter). -/
abbrev VO1_6 : View sig .tc .vmem S256x7168 .bf16 := (Memref.whole cc1_stg6_0 : Memref sig .tc .vmem S256x7168 .bf16).view
/-- Each window's current staging memref at point `t`, spelled as the pipeline passes it (`bodyAt1`), and its wholeness. -/
abbrev ms1_0 (t : Fin cfg1.N) : Memref sig .tc .vmem S256x7168 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S96x7168 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S192x7168 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S56x2560 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S56x2560 .i8 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S256x2560 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S256x7168 .bf16 := win1_6.stage (cfg1.slots t 6)
abbrev hs1_6 (t : Fin cfg1.N) : (ms1_6 t).IsWhole := hstage1_6 ((cfg1.slots t 6).cast nbuf1_6)
/-- The scratch operands: whole scoped buffers of the kernel's own, passed beside the windows. -/
abbrev scM1_0 : Memref sig .tc .vmem S7168x2560 .bf16 := Memref.whole cc1_scratch0
abbrev scM1_1 : Memref sig .tc .vmem S2x3584x256 .i8 := Memref.whole cc1_scratch1
/-! ## The ring's pieces out of whole buffers, and back -/

abbrev osem1 : Fin 2 → SemLoc sig := fun s => .dma (csm s).sem
theorem ownSemFacts1 : Pipeline.OwnSemFacts spec1 osem1 := by decide

abbrev G10 (b : Fin 10) : Finset S3584x2560.Idx := (Rect.unit (s := S3584x2560) (grpOff b) S3584x256.size (grpOff_inb b)).set
abbrev S2s (s : Fin 2) : Finset S2x3584x256.Idx := (Rect.unit (s := S2x3584x256) (slotOff s) S1x3584x256.size (slotOff_inb s)).set

omit [FloatOps F] in
theorem grp_set (b : Fin 10) : (grp b : Memref sig .tc .hbm _ _).view.set = G10 b := View.set_slice_whole _ _
omit [FloatOps F] in
theorem rslot_set (s : Fin 2) : (rslot s : Memref sig .tc .vmem _ _).view.set = S2s s := (View.set_reshape _ _).trans (View.set_slice_whole _ _)

/-- Membership in a column block. -/
theorem mem_G10 (b : Fin 10) (y : S3584x2560.Idx) : y ∈ G10 b ↔ (y 1).val / 256 = b.val := by
  rw [Rect.mem_set_unit]
  have h0 : (y 0).val < 3584 := (y 0).isLt
  have h1 : (y 1).val < 2560 := (y 1).isLt
  constructor
  · intro H; have a0 : 256 * b.val ≤ (y 1).val ∧ (y 1).val < 256 * b.val + 256 := H 1; omega
  · intro H i; fin_cases i
    · show 0 ≤ (y 0).val ∧ (y 0).val < 0 + 3584; omega
    · show 256 * b.val ≤ (y 1).val ∧ (y 1).val < 256 * b.val + 256; omega
/-- Membership in a slot. -/
theorem mem_S2s (s : Fin 2) (y : S2x3584x256.Idx) : y ∈ S2s s ↔ (y 0).val = s.val := by
  rw [Rect.mem_set_unit]
  have h1 : (y 1).val < 3584 := (y 1).isLt
  have h2 : (y 2).val < 256 := (y 2).isLt
  constructor
  · intro H; have a0 : s.val ≤ (y 0).val ∧ (y 0).val < s.val + 1 := H 0; omega
  · intro H i; fin_cases i
    · show s.val ≤ (y 0).val ∧ (y 0).val < s.val + 1; omega
    · show 0 ≤ (y 1).val ∧ (y 1).val < 0 + 3584; omega
    · show 0 ≤ (y 2).val ∧ (y 2).val < 0 + 256; omega
/-- The column blocks are disjoint. -/
theorem G10_disjoint : ∀ b b' : Fin 10, b ≠ b' → Disjoint (G10 b) (G10 b') := by
  intro b b' hne; rw [Finset.disjoint_left]; intro y hy hy'; rw [mem_G10] at hy hy'; exact hne (Fin.ext (hy.symm.trans hy'))
/-- The column blocks are all the columns. -/
theorem G10_cover : (Finset.univ : Finset (Fin 10)).biUnion G10 = Finset.univ := by
  ext y; simp only [Finset.mem_biUnion, Finset.mem_univ, true_and, iff_true]
  have h1 : (y 1).val < 2560 := (y 1).isLt
  exact ⟨⟨(y 1).val / 256, by omega⟩, by rw [mem_G10]⟩
/-- The slots are disjoint. -/
theorem S2s_disjoint : ∀ s s' : Fin 2, s ≠ s' → Disjoint (S2s s) (S2s s') := by
  intro s s' hne; rw [Finset.disjoint_left]; intro y hy hy'; rw [mem_S2s] at hy hy'; exact hne (Fin.ext (hy.symm.trans hy'))
/-- The slots are the whole buffer. -/
theorem S2s_cover : (Finset.univ : Finset (Fin 2)).biUnion S2s = Finset.univ := by
  ext y; simp only [Finset.mem_biUnion, Finset.mem_univ, true_and, iff_true]; exact ⟨(y 0).cast (by decide), by rw [mem_S2s]; rfl⟩

omit [FloatOps F] in
theorem bigSep_fin2 (Φ : Fin 2 → sProp 𝕄) : bigSep Finset.univ Φ = iprop(Φ 0 ∗ Φ 1) :=
  bigSep_univ_eq_bigSepL [(0 : Fin 2), (1 : Fin 2)] (by decide) (by decide) Φ

/-- The packed weights whole are their ten chunks at home. -/
theorem a_eq (c : Dev nD) (XA : Buf (Elt F) (aM.view.loc (c : Thread nD τ))) :
    (((c : Thread nD τ).loc main_arg2) ↦{fullShare} XA : sProp 𝕄) = bigSep Finset.univ (homeP c XA) := by
  rw [Ring.pointsTo_blocks (ℓ := (c : Thread nD τ).loc main_arg2) G10 G10_disjoint G10_cover]
  exact bigSep_congr fun b _ => by rw [← grp_set]; rfl
theorem homes_zero (c : Dev nD) (XA : Buf (Elt F) (aM.view.loc (c : Thread nD τ))) :
    bigSep Finset.univ (homeP c XA) = iprop(homeP c XA 0 ∗ bigSep (Ring.homeSet 1 0) (homeP c XA)) := by
  have e : (Finset.univ : Finset (Fin 10)) = insert 0 (Ring.homeSet (NB := 10) 1 0) := by
    ext b; simp only [Finset.mem_univ, Finset.mem_insert, Ring.mem_homeSet, true_iff, Fin.ext_iff]; have := b.isLt; omega
  rw [e, bigSep_insert (by simp [Ring.mem_homeSet])]; rfl
theorem homes_last (c : Dev nD) (XA : Buf (Elt F) (aM.view.loc (c : Thread nD τ))) :
    bigSep (Ring.homeSet (NB := 10) 1 10) (homeP c XA) = bigSep Finset.univ (homeP c XA) := by
  have e : (Finset.univ : Finset (Fin 10)) = Ring.homeSet (NB := 10) 1 10 := by
    ext b; simp only [Finset.mem_univ, Ring.mem_homeSet, true_iff]; have := b.isLt; omega
  rw [e]

omit [FloatOps F] in
theorem slotP_eq (c : Dev nD) (s : Fin 2) (f) : slotP c s f = (((c : Thread nD τ).loc cc1_scratch1) ↦[S2s s]{fullShare} f : sProp 𝕄) :=
  congrArg (fun S => (_ ↦[S]{fullShare} f : sProp 𝕄)) (rslot_set s)
/-- The ring's buffer whole is its two slots, and back. -/
theorem buf_split (c : Dev nD) :
    iprop(∃ f : Buf (Elt F) ((c : Thread nD τ).loc cc1_scratch1), ((c : Thread nD τ).loc cc1_scratch1) ↦{fullShare} f)
      ⊢ (iprop((∃ f, slotP c 0 f) ∗ ∃ f, slotP c 1 f) : sProp 𝕄) := by
  iintro ⟨%f, H⟩
  ihave H2 := (Entails.of_eq ((Ring.pointsTo_blocks (Ix := Unit) (Name := ℕ) (U := UU nD τ) (Lvl := ℕ) (q := fullShare) (ℓ := (c : Thread nD τ).loc cc1_scratch1) S2s S2s_disjoint S2s_cover f).trans (bigSep_fin2 _))) $$ H
  icases H2 with ⟨H0, H1⟩
  isplitl [H0]
  · iexists f; iapply (Entails.of_eq (slotP_eq c 0 f).symm); iexact H0
  · iexists f; iapply (Entails.of_eq (slotP_eq c 1 f).symm); iexact H1
theorem buf_join (c : Dev nD) :
    iprop((∃ f, slotP c 0 f) ∗ ∃ f, slotP c 1 f)
      ⊢ (iprop(∃ f : Buf (Elt F) ((c : Thread nD τ).loc cc1_scratch1), ((c : Thread nD τ).loc cc1_scratch1) ↦{fullShare} f) : sProp 𝕄) := by
  iintro ⟨⟨%f0, H0⟩, ⟨%f1, H1⟩⟩
  iapply (Ring.pointsTo_blocks_join_exists (ℓ := (c : Thread nD τ).loc cc1_scratch1) S2s S2s_disjoint S2s_cover f0)
  irw [bigSep_fin2]
  isplitl [H0]
  · iexists f0; iapply (Entails.of_eq (slotP_eq c 0 f0)); iexact H0
  · iexists f1; iapply (Entails.of_eq (slotP_eq c 1 f1)); iexact H1

/-- The kernel's own cells at zero are the two slots' cells. -/
theorem ownSems0_eq (c : Dev nD) : (Pipeline.ownSems0 (Ix := Unit) (Name := ℕ) (U := UU nD τ) (Lvl := ℕ) (Val := Elt F) (τ := τ) osem1 c : sProp 𝕄)
    = iprop(cellP c 0 ∗ cellP c 1) := by
  unfold Pipeline.ownSems0; rw [bigSep_fin2]

omit [FloatOps F] in
/-- The unpacked weights' buffer, held whole. -/
theorem wP_whole (c : Dev nD) (f : Buf (Elt F) ((c : Thread nD τ).loc cc1_scratch0)) :
    wP c f = (((c : Thread nD τ).loc cc1_scratch0) ↦{fullShare} f : sProp 𝕄) :=
  congrArg (fun S => (_ ↦[S]{fullShare} f : sProp 𝕄)) (View.set_whole _)

theorem sl2_10 : Ring.sl 2 10 = 0 := Fin.ext (by rfl)
theorem sl2_11 : Ring.sl 2 (10 + 1) = 1 := Fin.ext (by rfl)

/-- The weights the first point unpacks, from the packed weights, the zeros and the scales as the region finds them. -/
def Wfull (c : Dev nD) : Buf (Elt F) ((c : Thread nD τ).loc cc1_scratch0) :=
  wval (V c main_arg2) (iblk1 V c 4 ⟨0, by decide⟩) (iblk1 V c 3 ⟨0, by decide⟩)

/-- The region's invariant before point `t`: the other scoped buffers at some contents, the unpacked weights at
    `Wfull` once the first point is over, the ring idle, the packed weights as found. -/
def Φ1 (c : Dev nD) (t : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc1_scratch0), (((c : Thread nD τ).loc cc1_scratch0) ↦{fullShare} f) ∗ ⌜0 < t → f = Wfull V c⌝)
    ∗ (∃ f : Buf (Elt F) ((c : Thread nD τ).loc cc1_scratch1), ((c : Thread nD τ).loc cc1_scratch1) ↦{fullShare} f)
    ∗ (∃ r, prngReg c r)
    ∗ Pipeline.ownSems0 (Ix := Unit) (Name := ℕ) (U := UU nD τ) (Lvl := ℕ) (Val := Elt F) (τ := τ) osem1 c
    ∗ (((c : Thread nD τ).loc main_arg2) ↦{fullShare} V c main_arg2))

/-- The weights are unpacked at the first step alone. -/
theorem cond1_iff : ∀ t : Fin cfg1.N, k1_cond1 (grid1.coords t) = 1#1 ↔ t.val = 0 := by decide +kernel

omit [FloatOps F] in
theorem wvalB_unread [FloatOps F] (c : Dev nD) (XA : Buf (Elt F) (aM.view.loc (c : Thread nD τ)))
    (arg5 : Memref sig .tc .vmem S56x2560 .bf16) (harg5 : arg5.IsWhole) (arg6 : Memref sig .tc .vmem S56x2560 .i8) (harg6 : arg6.IsWhole)
    (x5 : Vec F S56x2560 .bf16) (x6 : Vec F S56x2560 .i8) :
    wvalB c XA arg5 arg6 (harg5.unread x5) (harg6.unread x6) = wval XA x6 x5 := by
  unfold wvalB; rw [harg5.read_unread, harg6.read_unread]

/-! ## What the outputs hold after each point -/

theorem cover6 (arg1 : Memref sig .tc .vmem S256x7168 .bf16) (harg1 : arg1.IsWhole) (arg2 : Memref sig .tc .vmem S96x7168 .bf16) (harg2 : arg2.IsWhole)
    (arg3 : Memref sig .tc .vmem S192x7168 .bf16) (harg3 : arg3.IsWhole)
    (x0 : Vec F S256x7168 .bf16) (x1 : Vec F S96x7168 .bf16) (x2 : Vec F S192x7168 .bf16) (y : S256x7168.Idx) :
    ∃ pc ∈ zbPieces arg1 harg1 arg2 harg2 arg3 harg3 x0 x1 x2, y ∈ pc.1.set :=
  View.cover_of_tiledL (zbPieces arg1 harg1 arg2 harg2 arg3 harg3 x0 x1 x2) S256x1024.size (by sl_kernel_rfl) y
theorem cover5 (c : Dev nD) (arg1 : Memref sig .tc .vmem S256x7168 .bf16) (harg1 : arg1.IsWhole) (arg2 : Memref sig .tc .vmem S96x7168 .bf16) (harg2 : arg2.IsWhole)
    (arg3 : Memref sig .tc .vmem S192x7168 .bf16) (harg3 : arg3.IsWhole) (arg8 : Memref sig .tc .vmem S256x7168 .bf16)
    (x0 : Vec F S256x7168 .bf16) (x1 : Vec F S96x7168 .bf16) (x2 : Vec F S192x7168 .bf16)
    (wf : Buf (Elt F) (wM.view.loc (c : Thread nD τ))) (y : S256x2560.Idx) :
    ∃ pc ∈ yPieces c arg1 harg1 arg2 harg2 arg3 harg3 arg8 x0 x1 x2 wf, y ∈ pc.1.set :=
  View.cover_of_tiledL (yPieces c arg1 harg1 arg2 harg2 arg3 harg3 arg8 x0 x1 x2 wf) S256x512.size (by sl_kernel_rfl) y

/-- What a step leaves in its two result blocks. -/
def outsAt1 (c : Dev nD) (t : Fin cfg1.N) : Vec F S256x2560 .bf16 × Vec F S256x7168 .bf16 :=
  (VO1_5.read (Elt F) (VO1_5.writes (Elt F) VO1_5.junk (yPieces c (ms1_0 t) (hs1_0 t) (ms1_1 t) (hs1_1 t) (ms1_2 t) (hs1_2 t) (ms1_6 t)
      (iblk1 V c 0 t) (iblk1 V c 1 t) (iblk1 V c 2 t) (Wfull V c))),
   VO1_6.read (Elt F) (VO1_6.writes (Elt F) VO1_6.junk (zbPieces (ms1_0 t) (hs1_0 t) (ms1_1 t) (hs1_1 t) (ms1_2 t) (hs1_2 t)
      (iblk1 V c 0 t) (iblk1 V c 1 t) (iblk1 V c 2 t))))

/-! ## The pipeline's proof data -/

/-- The proof data of pipeline 1 on core `c`: the arrays as the region finds them (`V`); after the body at
    point `t` each input's buffer at its block and the outputs' at `outsAt1`; the invariant
    (Lib/Pipeline/Frame.lean `ΦD`: the scoped rest, the generator register, the own cells at zero, the HBM operands at
    their region-entry contents); nothing owed; full shares. -/
def dat1 (c : Dev nD) : Dat τ (Elt F) Unit ℕ (UU nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t).1
    | ⟨6, _⟩ => (outsAt1 V c t).2
  Φ t := Φ1 V c t.val
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t).1 := by dsimp only [dat1]
theorem after1_6 (c : Dev nD) (t : Fin cfg1.N) : (dat1 V c).after 6 t = (outsAt1 V c t).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

set_option maxHeartbeats 1000000 in
/-- The body at a point after the first. -/
theorem sound_rest (c : Dev nD) (t : Fin cfg1.N) (ht : ¬ t.val = 0) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.castSucc = Φ1 V c t.val from rfl, show (dat1 V c).Φ t.succ = Φ1 V c (t.val + 1) from rfl,
    after1_0, after1_1, after1_2, after1_3, after1_4, after1_5, after1_6]
  unfold Dat.owesAt Pipeline.owesWithin
  rw [show (dat1 V c).owed t.castSucc = 0 from rfl, show (dat1 V c).owed t.succ = 0 from rfl]
  unfold outsAt1 Φ1; dsimp only
  iintro ⟨⟨HR0, HR1, HR2, HR3, ⟨%wf, HS0, %hw⟩, HS1, Hg, Hq, Hh0⟩, ⟨%W, -, HW⟩, ⟨%d0, H0⟩, ⟨%d1, H1⟩, ⟨%d2, H2⟩, ⟨%d3, H3⟩, ⟨%d4, H4⟩, ⟨%d5, H5⟩, ⟨%d6, H6⟩⟩
  obtain rfl := hw (by omega)
  iapply (runRest c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (fun h => ht ((cond1_iff t).mp h)) (iblk1 V c 0 t) (iblk1 V c 1 t) (iblk1 V c 2 t) (Wfull V c) _)
  isplitl [H0]; · iexact H0
  isplitl [H1]; · iexact H1
  isplitl [H2]; · iexact H2
  isplitl [H5]; · iexists _; iexact H5
  isplitl [H6]; · iexists _; iexact H6
  isplitl [HS0]; · iapply (Entails.of_eq (wP_whole c (Wfull V c)).symm); iexact HS0
  iintro ⟨H0, H1, H2, ⟨%e5, H5⟩, ⟨%e6, H6⟩, HS0⟩
  isplitl [HR0 HR1 HR2 HR3 HS0 HS1 Hg Hq Hh0]
  · isplitl [HR0]; · iexact HR0
    isplitl [HR1]; · iexact HR1
    isplitl [HR2]; · iexact HR2
    isplitl [HR3]; · iexact HR3
    isplitl [HS0]
    · iexists _
      isplitl [HS0]; · iapply (Entails.of_eq (wP_whole c (Wfull V c))); iexact HS0
      ipureintro; exact fun _ => rfl
    isplitl [HS1]; · iexact HS1
    isplitl [Hg]; · iexact Hg
    isplitl [Hq]; · iexact Hq
    iexact Hh0
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 c _ _ _ _ _ _ _ _ _ _ _)
  unfold owns; iexists _; isplitr
  swap; · iexact H6
  ipureintro; exact View.read_writes_of_cover _ _ _ _ _ (cover6 _ _ _ _ _ _ _ _ _)

set_option maxHeartbeats 1000000 in
/-- The body at the first point. -/
theorem sound_first (c : Dev nD) (t : Fin cfg1.N) (ht : t.val = 0) :
    bodyPre1 V c t ⊢ wp frame (wpE (defs₀ (F := F)) Variants.none c none) Set.univ (bodyAt1 t) (fun _ => bodyPost1 V c t) := by
  obtain rfl : t = ⟨0, by decide⟩ := Fin.ext ht
  generalize_proofs pf
  unfold bodyPre1 bodyPost1 bodyAt1
  simp only [before1_0, before1_1, before1_2, before1_3, before1_4]
  rw [show (dat1 V c).Φ (Fin.castSucc ⟨0, pf⟩) = Φ1 V c 0 from rfl, show (dat1 V c).Φ (Fin.succ ⟨0, pf⟩) = Φ1 V c (0 + 1) from rfl,
    after1_0, after1_1, after1_2, after1_3, after1_4, after1_5, after1_6]
  unfold Dat.owesAt Pipeline.owesWithin
  rw [show (dat1 V c).owed (Fin.castSucc ⟨0, pf⟩) = 0 from rfl, show (dat1 V c).owed (Fin.succ ⟨0, pf⟩) = 0 from rfl]
  unfold outsAt1 Φ1; dsimp only
  rw [ownSems0_eq, a_eq c (V c main_arg2), homes_zero]
  iintro ⟨⟨HR0, HR1, HR2, HR3, ⟨%wf, HS0, -⟩, HS1, Hg, ⟨Hq0, Hq1⟩, Hh0, Hh1⟩, ⟨%W, -, HW⟩, ⟨%d0, H0⟩, ⟨%d1, H1⟩, ⟨%d2, H2⟩, ⟨%d3, H3⟩, ⟨%d4, H4⟩, ⟨%d5, H5⟩, ⟨%d6, H6⟩⟩
  ihave Hs := (buf_split c) $$ HS1
  icases Hs with ⟨Hs0, Hs1⟩
  iapply (runFirst c (grid1.coords ⟨0, pf⟩) (ms1_0 ⟨0, pf⟩) (hs1_0 ⟨0, pf⟩) (ms1_1 ⟨0, pf⟩) (hs1_1 ⟨0, pf⟩) (ms1_2 ⟨0, pf⟩) (hs1_2 ⟨0, pf⟩) (ms1_3 ⟨0, pf⟩) (hs1_3 ⟨0, pf⟩) (ms1_4 ⟨0, pf⟩) (hs1_4 ⟨0, pf⟩) (ms1_5 ⟨0, pf⟩) (hs1_5 ⟨0, pf⟩) (ms1_6 ⟨0, pf⟩) (hs1_6 ⟨0, pf⟩)
    (V c main_arg2) ((cond1_iff ⟨0, pf⟩).mpr rfl) (iblk1 V c 0 ⟨0, pf⟩) (iblk1 V c 1 ⟨0, pf⟩) (iblk1 V c 2 ⟨0, pf⟩) (iblk1 V c 3 ⟨0, pf⟩) (iblk1 V c 4 ⟨0, pf⟩) W _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [HS0]; · iexists wf; iapply (Entails.of_eq (wP_whole c wf).symm); iexact HS0
  isplitl [Hh0]; · iexact Hh0
  isplitl [Hh1]; · iexact Hh1
  isplitl [Hs0]; · iexact Hs0
  isplitl [Hs1]; · iexact Hs1
  isplitl [Hq0]; · iexact Hq0
  isplitl [Hq1]; · iexact Hq1
  isplitl [HW]; · iexact HW
  rw [wvalB_unread]
  unfold ringDone
  rw [sl2_10, sl2_11, homes_last, homes_zero]
  iintro ⟨H0, H1, H2, H3, H4, ⟨%e5, H5⟩, ⟨%e6, H6⟩, HS0, ⟨⟨Hh0, Hh1⟩, ⟨%g0, Hs0, Hq0⟩, ⟨%g1, Hs1⟩, Hq1⟩, ⟨%W', HW'⟩⟩
  isplitl [HR0 HR1 HR2 HR3 HS0 Hs0 Hs1 Hg Hq0 Hq1 Hh0 Hh1]
  · isplitl [HR0]; · iexact HR0
    isplitl [HR1]; · iexact HR1
    isplitl [HR2]; · iexact HR2
    isplitl [HR3]; · iexact HR3
    isplitl [HS0]
    · iexists _
      isplitl [HS0]; · iapply (Entails.of_eq (wP_whole c _)); iexact HS0
      ipureintro; exact fun _ => rfl
    isplitl [Hs0 Hs1]
    · iapply (buf_join c)
      isplitl [Hs0]; · iexists _; iexact Hs0
      iexists _; iexact Hs1
    isplitl [Hg]; · iexact Hg
    isplitl [Hq0 Hq1]
    · isplitl [Hq0]; · iexact Hq0
      iexact Hq1
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover5 c _ _ _ _ _ _ _ _ _ _ _)
  unfold owns; iexists _; isplitr
  swap; · iexact H6
  ipureintro; exact View.read_writes_of_cover _ _ _ _ _ (cover6 _ _ _ _ _ _ _ _ _)

/-- The body at any point. -/
theorem sound_body1 (c : Dev nD) (t : Fin cfg1.N) :
    bodyPre1 V c t ⊢ wp frame (wpE (defs₀ (F := F)) Variants.none c none) Set.univ (bodyAt1 t) (fun _ => bodyPost1 V c t) :=
  if ht : t.val = 0 then sound_first V c t ht else sound_rest V c t ht

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.Proof.Hra

end

end
-- ==== Proof.Run.lean ====
/-
The whole run.

The program as segments — the reshape, the preparing call, the main call, the two closing reshapes —, the
buffers' contents at every boundary, and the run from the launch to the return.
-/
module

public import proofs.«01_k».proof.Proof.MainRegion
public import proofs.«01_k».proof.Proof.Gen.KernelIdeal.Launch
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.Proof.Hra

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UU nD τ) ℕ

/-- The array the body moves itself, as a reference. -/
def H1 : Finset (Ref sig .tc) := {main_arg2}
theorem H1_sub : H1 ⊆ Pipeline.restRefs sig spec1 := by decide
omit [FloatOps F] in
theorem hbmPts1_eq (V : (c : Dev nD) → (b : Ref sig .tc) → Buf (Elt F) ((c : Thread nD τ).loc b)) (c : Dev nD) :
    (bigSep H1 (fun b => ((c : Thread nD τ).loc b) ↦{fullShare} V c b) : sProp 𝕄) = iprop(((c : Thread nD τ).loc main_arg2) ↦{fullShare} V c main_arg2) := by
  rw [BI.bigSep_eq_bigSepL_of_eq [main_arg2] (by decide) (by decide)]; rfl

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v3, main_v4]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
/-- The arguments at launch. -/
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- The arguments before the first region. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`) (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
/-- The arguments before the second region. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
/-- The arguments after the second region. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After `hostOps2`. -/
abbrev W4 : Dev nD → Valuation τ sig (Elt F) := fun c => StableHlo.after hostOps2 (W3 m ρ c)
/-- A reference `hostOps2` does not write keeps its contents across it. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- The arguments at the end. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ### The arguments end as launched: no host stretch writes one and no region may change one (a region reads it
    through an input window or bypasses it) -/

theorem W4_main_arg0 (c : Dev nD) : W4 m ρ c (Proc.devRef .tc main_arg0) = m ((c : Thread nD τ).loc main_arg0) :=
  W4_args m ρ c main_arg0 (by decide)
theorem W4_main_arg1 (c : Dev nD) : W4 m ρ c (Proc.devRef .tc main_arg1) = m ((c : Thread nD τ).loc main_arg1) :=
  W4_args m ρ c main_arg1 (by decide)
theorem W4_main_arg2 (c : Dev nD) : W4 m ρ c (Proc.devRef .tc main_arg2) = m ((c : Thread nD τ).loc main_arg2) :=
  W4_args m ρ c main_arg2 (by decide)
theorem W4_main_arg3 (c : Dev nD) : W4 m ρ c (Proc.devRef .tc main_arg3) = m ((c : Thread nD τ).loc main_arg3) :=
  W4_args m ρ c main_arg3 (by decide)
theorem W4_main_arg4 (c : Dev nD) : W4 m ρ c (Proc.devRef .tc main_arg4) = m ((c : Thread nD τ).loc main_arg4) :=
  W4_args m ρ c main_arg4 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UU nD τ) ℕ (Pipeline.pin (pcfgs (F := F)) adm p) c
  | ⟨0, _⟩ => fun c => dat0 (V1 m ρ) c
  | ⟨1, _⟩ => fun c => dat1 (V2 m ρ) c
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UU nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W4`, the generator register at some state. -/
abbrev Tₙ (c : Dev nD) : sProp 𝕄 := iprop(StableHlo.held (c : Thread nD τ) (Pipeline.ucRefs τ sig) (W4 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UU nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UU nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the next segment is entered from). Its arrays split out of the unscoped buffers
    (`arrays_of_unscopedBufs`) and put back at the exit contents (`unscopedBufs_of_arrays`); the generator register into the
    invariant `ΦD` and out, beside the kernel's own DMA cells (`osem1`, at zero from the boundary and back) and the operands
    it stages itself (`H1`, split out of the bypassing buffers and rejoined: Lib/Pipeline/Frame.lean `θ_run_frame_dma`'s
    routing); nothing owed. -/
def reg1 : Pipeline.RegionSeg (pcfgs (F := F)) adm (pdats m ρ) () defs₀ 𝒱₀ L lv 1 where
  win := launch1.win.to₀
  block_pos := launch1.block_pos
  stage_whole := launch1.stage_whole
  K := Fin 2
  osem := osem1
  ho := ownSemFacts1
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop((∃ r, prngReg c r) ∗ Pipeline.ownSems0 (Ix := Unit) (Name := ℕ) (U := UU nD τ) (Lvl := ℕ) (Val := Elt F) (τ := τ) osem1 c ∗ (((c : Thread nD τ).loc main_arg2) ↦{fullShare} V2 m ρ c main_arg2))
  Y c := iprop((∃ r, prngReg c r) ∗ (((c : Thread nD τ).loc main_arg2) ↦{fullShare} V2 m ρ c main_arg2))
  Z c := bigSep (Pipeline.restRefs sig spec1 \ H1) fun b => (((c : Thread nD τ)).loc b) ↦{fullShare} V2 m ρ c b
  hentry c := by
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    have hH : (Pipeline.unscopedRest (Ix := Unit) (Name := ℕ) (U := UU nD τ) (Lvl := ℕ) spec1 c (V2 m ρ c) : sProp 𝕄)
        = iprop((((c : Thread nD τ).loc main_arg2) ↦{fullShare} V2 m ρ c main_arg2) ∗ (bigSep (Pipeline.restRefs sig spec1 \ H1) fun b => (((c : Thread nD τ)).loc b) ↦{fullShare} V2 m ρ c b)) := by
      rw [← hbmPts1_eq (V2 m ρ) c]; unfold Pipeline.unscopedRest; exact BI.bigSep_sdiff_split H1_sub
    iintro ⟨⟨Hub, Hp, HO⟩, Hos, -⟩
    ihave H := hsplit $$ Hub
    icases H with ⟨Ha, Hrest⟩
    ihave H' := (Entails.of_eq hH) $$ Hrest
    icases H' with ⟨HH, HR⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp Hos HH]
    · isplitl [Hp]; · iexact Hp
      isplitl [Hos]; · iexact Hos
      iexact HH
    iexact HR
  hin c := by
    rw [show (pdats m ρ 1 c).Φ 0 = Φ1 (V2 m ρ) c 0 from rfl, show (Pipeline.pin (pcfgs (F := F)) adm 1).spec = spec1 from rfl, scopedRest1_eq]; unfold Φ1
    iintro ⟨⟨Hp, Ho, HH⟩, -, Hr0, Hr1, Hr2, Hr3, ⟨%f, Hr4⟩, Hr5⟩
    isplitl [Hr0]; · iexact Hr0
    isplitl [Hr1]; · iexact Hr1
    isplitl [Hr2]; · iexact Hr2
    isplitl [Hr3]; · iexact Hr3
    isplitl [Hr4]
    · iexists f
      isplitl [Hr4]; · iexact Hr4
      ipureintro; exact fun h => absurd h (Nat.lt_irrefl 0)
    isplitl [Hr5]; · iexact Hr5
    isplitl [Hp]; · iexact Hp
    isplitl [Ho]; · iexact Ho
    iexact HH
  hout c := by
    rw [show (pdats m ρ 1 c).Φ (Fin.last _) = Φ1 (V2 m ρ) c (Fin.last cfg1.N).val from rfl, show (Pipeline.pin (pcfgs (F := F)) adm 1).spec = spec1 from rfl, scopedRest1_eq]; unfold Φ1
    iintro ⟨Hr0, Hr1, Hr2, Hr3, ⟨%f, Hr4, -⟩, Hr5, Hp, Ho, HH⟩
    isplitl [Hp HH]
    · isplitl [Hp]; · iexact Hp
      iexact HH
    isplitl [Ho]; · iexact Ho
    isplitl [Hr0]; · iexact Hr0
    isplitl [Hr1]; · iexact Hr1
    isplitl [Hr2]; · iexact Hr2
    isplitl [Hr3]; · iexact Hr3
    isplitl [Hr4]; · iexists f; iexact Hr4
    iexact Hr5
  hexit c := by
    have hjoin := Pipeline.unscopedBufs_of_arrays (p := 1) (pcfgs (F := F)) adm (Ix := Unit) (Name := ℕ) (U := UU nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    have hH : (Pipeline.unscopedRest (Ix := Unit) (Name := ℕ) (U := UU nD τ) (Lvl := ℕ) spec1 c (V2 m ρ c) : sProp 𝕄)
        = iprop((((c : Thread nD τ).loc main_arg2) ↦{fullShare} V2 m ρ c main_arg2) ∗ (bigSep (Pipeline.restRefs sig spec1 \ H1) fun b => (((c : Thread nD τ)).loc b) ↦{fullShare} V2 m ρ c b)) := by
      rw [← hbmPts1_eq (V2 m ρ) c]; unfold Pipeline.unscopedRest; exact BI.bigSep_sdiff_split H1_sub
    iintro ⟨Ha, HO, ⟨HY, HH⟩, HR⟩
    ihave Hrest := (Entails.of_eq hH.symm) $$ [HH HR]
    · isplitl [HH]; · iexact HH
      iexact HR
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 4 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- THE RUN: from any memory with zero counters every weakly fair execution terminates without a fault, every
    buffer that outlives the calls at the last boundary's contents, every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W4 m ρ c b) ∧ r.2.sem = fun _ => 0) :=
  Pipeline.θ_run_regions_kit_sems (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- THE FRAME: the argument arrays end as they were launched. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
      ⟨(h.1 c _ (mem_uc main_arg0 (by decide))).trans (W4_main_arg0 m ρ c),
       (h.1 c _ (mem_uc main_arg1 (by decide))).trans (W4_main_arg1 m ρ c),
       (h.1 c _ (mem_uc main_arg2 (by decide))).trans (W4_main_arg2 m ρ c),
       (h.1 c _ (mem_uc main_arg3 (by decide))).trans (W4_main_arg3 m ρ c),
       (h.1 c _ (mem_uc main_arg4 (by decide))).trans (W4_main_arg4 m ρ c)⟩, h.2⟩) (run m ρ)

end Cert.Proof.Hra

end

end
-- ==== Proof.Frames.lean ====
/-
The frame claims of the two printings of the kernel.

The frame is proved at any reading of the floats on the idealized program; the program as compiled differs
from it in name only.
-/
module
public import proofs.«01_k».proof.Proof.Run
public import proofs.«01_k».proof.Defs
public import proofs.«01_k».proof.Proof.Gen.Kernel
public import Idealize.ShloMosaic.Lib.Tactic
@[expose] public section
namespace Cert.Proof.Hra
open Idealize.ShloMosaic Idealize.ShloMosaic.TcCoe Idealize.ShloMosaic.Tactic Idealize.SL.Sem
/-- The frame of the idealized program, its floats read as bit patterns. -/
def AtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)
/-- The two programs are the same by definition. -/
theorem atBits_eq : AtBits = Cert.quiescent_Kernel := by sl_kernel_rfl
/-- The compiled program's frame. -/
theorem frame_Kernel : Cert.quiescent_Kernel := atBits_eq ▸ (fun m ρ _ => frame m ρ)

/-- The idealized program's frame. -/
theorem frame_KernelIdeal : Cert.quiescent_KernelIdeal := fun m ρ _ => frame m ρ

end Cert.Proof.Hra

end
-- ==== Proof.RefFrame.lean ====
/-
The run of the reference, and its frame claim.

The reference is host operations round one counted loop; nothing it runs has a semaphore, and no operation writes
an argument.
-/
module
public import proofs.«01_k».proof.Proof.Gen.ReferenceIdeal.Run
public import proofs.«01_k».proof.Defs
@[expose] public section
namespace Cert.Proof.Hra.Reference
open Idealize.ShloMosaic Idealize.ShloMosaic.TcCoe Idealize.ShloMosaic.StableHlo Idealize.SL.Sem
open Cert.ReferenceIdeal Cert.ReferenceIdeal.Gen Cert.ReferenceIdeal.Value
set_option maxRecDepth 8192

variable {F : FTy → Type} [FloatOps F]
variable (m : (ℓ : Loc nD τ sig) → Buf (Elt F) ℓ) (ρ : Dev nD → PrngReg)

/-- Every buffer's contents at the reference's end. -/
noncomputable abbrev fin (c : Dev nD) : Valuation τ sig (Elt F) := finalContents condOps preI bodyI postI 32 m c

/-- The buffers the loop may write. -/
abbrev loopW : List (Ref sig .tc) := condOps_W ++ while0Ops0_W

/-- A buffer the loop does not write keeps its contents through any number of trips. -/
theorem atK_keep (c : Dev nD) (r : Ref sig .tc) (h : r ∉ loopW) : ∀ k, atK m k c (Proc.devRef .tc r) = entryContents preI m c (Proc.devRef .tc r)
  | 0 => rfl
  | k + 1 => by
    have h1 : r ∉ condOps_W := fun hh => h (List.mem_append_left _ hh)
    have h2 : r ∉ while0Ops0_W := fun hh => h (List.mem_append_right _ hh)
    refine Eq.trans ?_ (atK_keep c r h k)
    show afterL bodyI (after condOps (atK m k c)) _ = _
    simp only [bodyI, afterL_cons, afterL_nil]
    rw [after_of_writes_sub _ _ while0Ops0_writes h2, after_of_writes_sub _ _ condOps_writes h1]

/-- Every buffer's contents before the operations that follow the loop. -/
noncomputable def mid (c : Dev nD) : Valuation τ sig (Elt F) := after condOps (atK m 32 c)

/-- A buffer the loop does not write has there its contents at the loop's entry. -/
theorem mid_keep (c : Dev nD) (r : Ref sig .tc) (h : r ∉ loopW) : mid m c (Proc.devRef .tc r) = entryContents preI m c (Proc.devRef .tc r) := by
  unfold mid
  rw [after_of_writes_sub _ _ condOps_writes (fun hh => h (List.mem_append_left _ hh)), atK_keep m c r h]

/-- The buffers the operations before the loop write. -/
abbrev preW : List (Ref sig .tc) := hostOps0_W ++ (hostOps0_1_W ++ hostOps0_2_W)

/-- A buffer the operations before the loop do not write is at launch contents at the loop's entry. -/
theorem entry_keep (c : Dev nD) (r : Ref sig .tc) (h : r ∉ preW) : entryContents preI m c (Proc.devRef .tc r) = m ((c.tc : Thread nD τ).loc r) := by
  simp only [entryContents, preI, afterL_cons, afterL_nil]
  rw [after_of_writes_sub _ _ hostOps0_2_writes (fun hh => h (List.mem_append_right _ (List.mem_append_right _ hh))),
    after_of_writes_sub _ _ hostOps0_1_writes (fun hh => h (List.mem_append_right _ (List.mem_append_left _ hh))),
    after_of_writes_sub _ _ hostOps0_writes (fun hh => h (List.mem_append_left _ hh))]

/-- The reference each operation after the loop writes, in order. -/
abbrev postW : List (Ref sig .tc) := [main_v20, main_v21, main_v22, main_v23, main_v24, main_v25, main_v26, main_c_4, main_v27, main_v28, main_v29, main_v30, main_v31, main_v32, main_v33, main_v34, main_v35, main_v36, main_v37, main_v38, main_v39, main_c_5, main_v40, main_v41, main_v42, main_v43, main_v44, main_v45, main_v46, main_v47, main_v48, main_v49, main_v50, main_v51, main_v52, main_v53, main_v54, main_v55, main_v56, main_v57, main_v58]
/-- What the operations after the loop write. -/
theorem post_writes : (hostOps0_3 : List (HloOp τ sig (Elt F))).Forall fun op => op.writes ⊆ (postW.map (Proc.devRef (τ := τ) .tc)).toFinset :=
  StableHlo.forall_writes_sub_of_map rfl

/-- An argument of the reference ends at its launch contents. -/
theorem fin_keep (c : Dev nD) (r : Ref sig .tc) (h1 : r ∉ preW) (h2 : r ∉ loopW) (h3 : r ∉ postW) :
    fin m c (Proc.devRef .tc r) = m ((c.tc : Thread nD τ).loc r) := by
  show afterL postI (mid m c) _ = _
  simp only [postI, afterL_cons, afterL_nil]
  rw [after_of_writes_sub _ _ post_writes h3, mid_keep m c r h2, entry_keep m c r h1]

/-- The reference runs: every buffer ends at `fin`, every counter at zero. -/
theorem run : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = fin m c (Proc.devRef .tc b)) ∧ r.2.sem = fun _ => 0) :=
  (θ_run _ _ _).mono (fun r h => ⟨h, sem_eq_zero_of_no_sems rfl r.2⟩) (run_fold m ρ)

/-- The reference runs and leaves its arguments as they were. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c =>
    ⟨(h.1 c main_arg0 rfl).trans (fin_keep m c main_arg0 (by decide) (by decide) (by decide)),
     (h.1 c main_arg1 rfl).trans (fin_keep m c main_arg1 (by decide) (by decide) (by decide)),
     (h.1 c main_arg2 rfl).trans (fin_keep m c main_arg2 (by decide) (by decide) (by decide)),
     (h.1 c main_arg3 rfl).trans (fin_keep m c main_arg3 (by decide) (by decide) (by decide)),
     (h.1 c main_arg4 rfl).trans (fin_keep m c main_arg4 (by decide) (by decide) (by decide))⟩, h.2⟩) (run m ρ)

/-- The reference's frame claim. -/
theorem frame_ReferenceIdeal : Cert.quiescent_ReferenceIdeal := fun m ρ _ => frame m ρ

end Cert.Proof.Hra.Reference

end
-- ==== Proof.BackSub.lean ====
/-
Back-substitution for a unit-half triangular system, over the extended reals.

`back α k` is the matrix after `k` steps of the recurrence that fills the rows from the last one up: row `i` becomes
twice the `i`-th unit vector less the rows below it weighted by `α`. The reference's own step solves the same row of
`(I/2 + α) t = I` by subtracting the whole weighted sum and dividing by the diagonal; where `α` is strictly upper
triangular the two agree.
-/
module
public import Mathlib.Data.EReal.Operations
public import Mathlib.Algebra.BigOperators.Fin
public import Idealize.ShloMosaic.PureOps.Ideal
@[expose] public section
noncomputable section
namespace Cert.Proof.Hra
open Idealize.ShloMosaic

/-- The row the `k`-th step fills. -/
def rowAt (k : ℕ) : Fin 32 := ⟨31 - k, by omega⟩

/-- One step of the kernel's recurrence, at row `i`. -/
def backStep (A : Fin 32 → Fin 32 → EReal) (i : Fin 32) (S : Fin 32 → Fin 32 → EReal) : Fin 32 → Fin 32 → EReal :=
  fun r c => if r = i then 2 * ((if c = i then 1 else 0) - ∑ j, A i j * S j c) else S r c

/-- The matrix after `k` steps, at first zero. -/
def back (A : Fin 32 → Fin 32 → EReal) : ℕ → Fin 32 → Fin 32 → EReal
  | 0 => fun _ _ => 0
  | k + 1 => backStep A (rowAt k) (back A k)

/-- One step of the reference's solver, at row `i`. -/
def solveStep (s : Fin 32 → Fin 32 → EReal) (i : Fin 32) (S : Fin 32 → Fin 32 → EReal) : Fin 32 → Fin 32 → EReal :=
  fun r c => if r = i then Ideal.div ((if i = c then 1 else 0) - ∑ j, s i j * S j c) (s i i) else S r c

/-- The solver's matrix after `k` steps, at first zero. -/
def solve (s : Fin 32 → Fin 32 → EReal) : ℕ → Fin 32 → Fin 32 → EReal
  | 0 => fun _ _ => 0
  | k + 1 => solveStep s (rowAt k) (solve s k)

/-- The kernel's recurrence over the reals. -/
def backR (A : Fin 32 → Fin 32 → ℝ) : ℕ → Fin 32 → Fin 32 → ℝ
  | 0 => fun _ _ => 0
  | k + 1 => fun r c => if r = rowAt k then 2 * ((if c = rowAt k then 1 else 0) - ∑ j, A (rowAt k) j * backR A k j c) else backR A k r c

/-- One step of the real recurrence. -/
theorem backR_succ (A : Fin 32 → Fin 32 → ℝ) (k : ℕ) (r c : Fin 32) : backR A (k + 1) r c
    = if r = rowAt k then 2 * ((if c = rowAt k then 1 else 0) - ∑ j, A (rowAt k) j * backR A k j c) else backR A k r c := rfl

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Of real coefficients the recurrence is real. -/
theorem back_coe (A : Fin 32 → Fin 32 → ℝ) : ∀ k, back (fun i j => (A i j : EReal)) k = fun r c => (backR A k r c : EReal)
  | 0 => by funext r c; simp [back, backR]
  | k + 1 => by
    funext r c
    show backStep _ (rowAt k) (back _ k) r c = _
    rw [back_coe A k]
    unfold backStep
    rw [backR_succ]
    by_cases h : r = rowAt k
    · rw [if_pos h, if_pos h]
      rw [EReal.coe_mul, EReal.coe_sub, coe_sum]
      congr 1
      congr 1
      by_cases hc : c = rowAt k
      · rw [if_pos hc, if_pos hc]; rfl
      · rw [if_neg hc, if_neg hc]; rfl
    · rw [if_neg h, if_neg h]

/-- The rows not yet filled are zero. -/
theorem backR_zero (A : Fin 32 → Fin 32 → ℝ) : ∀ k (r c : Fin 32), r.val + k < 32 → backR A k r c = 0
  | 0, _, _, _ => rfl
  | k + 1, r, c, h => by
    have hr : r ≠ rowAt k := fun e => by
      have := congrArg Fin.val e
      simp only [rowAt] at this
      omega
    rw [backR_succ, if_neg hr]
    exact backR_zero A k r c (by omega)

/-- Dividing a real by one half doubles it. -/
theorem div_half (y : ℝ) : Ideal.div (y : EReal) ((1 / 2 : ℝ) : EReal) = ((2 * y : ℝ) : EReal) := by
  unfold Ideal.div
  rw [if_neg (by norm_num), ← EReal.coe_inv, ← EReal.coe_mul]
  congr 1
  ring

/-- The solver of `I/2 + α`, with `α` strictly upper triangular, is the recurrence on `α`. -/
theorem solve_eq (A : Fin 32 → Fin 32 → ℝ) (hA : ∀ i j : Fin 32, j.val ≤ i.val → A i j = 0) (s : Fin 32 → Fin 32 → EReal)
    (hs : ∀ i j, s i j = (((if i = j then 1 / 2 else 0) + A i j : ℝ) : EReal)) :
    ∀ k, k ≤ 32 → solve s k = fun r c => (backR A k r c : EReal)
  | 0, _ => by funext r c; simp [solve, backR]
  | k + 1, hk => by
    funext r c
    show solveStep s (rowAt k) (solve s k) r c = _
    rw [solve_eq A hA s hs k (by omega)]
    unfold solveStep
    rw [backR_succ]
    have hz : backR A k (rowAt k) c = 0 := backR_zero A k _ c (by simp only [rowAt]; omega)
    by_cases h : r = rowAt k
    · rw [if_pos h, if_pos h]
      have hd : s (rowAt k) (rowAt k) = ((1 / 2 : ℝ) : EReal) := by rw [hs, if_pos rfl, hA _ _ le_rfl, add_zero]
      have hsum : (∑ j, s (rowAt k) j * ((backR A k j c : ℝ) : EReal)) = ((∑ j, A (rowAt k) j * backR A k j c : ℝ) : EReal) := by
        rw [coe_sum]
        refine Finset.sum_congr rfl fun j _ => ?_
        rw [hs, ← EReal.coe_mul]
        congr 1
        by_cases hj : rowAt k = j
        · subst hj; rw [hz]; ring
        · rw [if_neg hj, zero_add]
      rw [hsum, hd]
      have he : (if rowAt k = c then (1 : EReal) else 0) = (((if c = rowAt k then 1 else 0 : ℝ)) : EReal) := by
        by_cases hc : c = rowAt k
        · rw [if_pos hc, if_pos hc.symm]; rfl
        · rw [if_neg hc, if_neg (fun e => hc e.symm)]; rfl
      rw [he, ← EReal.coe_sub, div_half]
    · rw [if_neg h, if_neg h]

end Cert.Proof.Hra
end
-- ==== Proof.PrepValue.lean ====
/-
What the preparing region leaves, read at an index.

The scratch matrix is filled row by row from the last; the pieces the run finds are the recurrence `tPieces`, and what
is read back of them is `back` of the strictly upper part of the Gram matrix.
-/
module
public import proofs.«01_k».proof.Proof.PrepRegion
public import proofs.«01_k».proof.Proof.BackSub
public import Idealize.ShloMosaic.Lib.Pointwise
public import Idealize.ShloMosaic.Lib.Tactic
@[expose] public section
set_option maxRecDepth 16384
noncomputable section
namespace Cert.Proof.Hra
open Cert.KernelIdeal Cert.KernelIdeal.Gen
open Idealize.ShloMosaic Idealize.ShloMosaic.TcCoe Idealize.ShloMosaic.Tactic

section Pieces
variable {F : FTy → Type} [FloatOps F]

/-- A column of the square can be sliced out. -/
theorem slices_row (i : ℕ) (h : i < 32) : S32x32.Slices ![0, i] S32x1 := by
  refine ⟨rfl, fun a => ?_⟩
  fin_cases a
  · show 0 + 32 ≤ 32; omega
  · show i + 1 ≤ 32; omega

/-- A row of the square lies inside it. -/
theorem inb_row (i : ℕ) (h : i < 32) : ∀ a, (![i, 0] : Fin 2 → Nat) a + S1x32.size a ≤ S32x32.size a := by
  intro a; fin_cases a
  · show i + 1 ≤ 32; omega
  · show 0 + 32 ≤ 32; omega

/-- The row stored at step `i`, of the transposed coefficients `at'` and of what the scratch holds. -/
def rowPay (i : ℕ) (h : i < 32) (at' S : FVec F S32x32 .f32) : FVec F S1x32 .f32 :=
  shapeCast S1x32 (mulf (broadcast S1x32 (Scalar.ofBits .f32 0x40000000#32))
    (subf (select (cmpi .eq (extractStridedSlice S1x32 ![0, 0] (iota .tc S32x32 32 [1] iota_S32x32_d1_w32) slices_S32x32_o0_0_S1x32)
        (broadcast S1x32 (BitVec.ofNat 32 i))) (broadcast S1x32 (Scalar.ofBits (F := F) .f32 0x3F800000#32)) (broadcast S1x32 (Scalar.ofBits .f32 0x00000000#32)))
      (shapeCast S1x32 (multiReduction .add [0] S32 (mulf (broadcastTo S32x32 (extractStridedSlice S32x1 ![0, i] at' (slices_row i h)) broadcasts_S32x1_S32x32) S)
        0x00000000#32 reduces_S32x32_S32 (.inl rfl) rfl) shapeCasts_S32_S1x32))) shapeCasts_S1x32_S1x32

/-- The scratch's stores after `k` rows, last first. -/
def tPieces (v : View sig .tc .vmem S32x32 .f32) (at' : FVec F S32x32 .f32) : ℕ → List (View.Piece (Elt F) S32x32 .f32)
  | 0 => [⟨Rect.unit (s := S32x32) ![0, 0] S32x32.size inb_S32x32_S32x32_0_0, k0_pay4 (F := F)⟩]
  | k + 1 => ⟨Rect.unit (s := S32x32) ![31 - k, 0] S1x32.size (inb_row (31 - k) (by omega)),
      rowPay (31 - k) (by omega) at' (v.readCov (tPieces v at' k) (Rect.unit (s := S32x32) ![0, 0] S32x32.size inb_S32x32_S32x32_0_0).toLoadRect)⟩ :: tPieces v at' k

variable (c : Dev nD) (arg0 : Memref sig .tc .vmem S32x7168 .f32) (harg0 : arg0.IsWhole) (arg1 : Memref sig .tc .vmem S192x7168 .bf16) (harg1 : arg1.IsWhole)
  (arg2 : Memref sig .tc .vmem S96x7168 .bf16) (harg2 : arg2.IsWhole) (arg3 : Memref sig .tc .vmem S32x32 .f32) (harg3 : arg3.IsWhole) (x0 : Vec F S32x7168 .f32)

/-- The input as the body loads it. -/
abbrev ldU : Vec F S32x7168 .f32 := arg0.view.readAt (Elt F) (Rect.unit (s := S32x7168) ![0, 0] S32x7168.size inb_S32x7168_S32x7168_0_0).toLoadRect (harg0.unread x0)

/-- What the region stores into its first result. -/
theorem prep_pieces1 : (kernelRun0_A c arg0 harg0 arg1 harg1 arg2 harg2 arg3 harg3 x0).1
    = [⟨Rect.unit (s := S192x7168) ![0, 0] S192x7168.size inb_S192x7168_S192x7168_0_0,
        k0_pay1 (k0_pay63 (k0_pay2 (ldU arg0 harg0 x0))) (k0_pay64 (k0_pay2 (ldU arg0 harg0 x0))) (k0_pay65 (k0_pay2 (ldU arg0 harg0 x0))) (k0_pay66 (k0_pay2 (ldU arg0 harg0 x0)))⟩] := by
  sl_kernel_rfl

/-- What the region stores into its second result. -/
theorem prep_pieces2 : (kernelRun0_A c arg0 harg0 arg1 harg1 arg2 harg2 arg3 harg3 x0).2.1
    = [⟨Rect.unit (s := S96x7168) ![0, 0] S96x7168.size inb_S96x7168_S96x7168_0_0,
        k0_pay62 (k0_pay2 (ldU arg0 harg0 x0))
          (arg3.view.readCov (tPieces arg3.view (k0_pay3 (ldU arg0 harg0 x0)) 32) (Rect.unit (s := S32x32) ![0, 0] S32x32.size inb_S32x32_S32x32_0_0).toLoadRect)⟩] := by
  sl_kernel_rfl
end Pieces

end Cert.Proof.Hra
end
-- ==== Proof.PrepIdeal.lean ====
module

public import proofs.«01_k».proof.Proof.PrepValue
public import Idealize.ShloMosaic.Lib.Pipeline.ValueKit
public import Idealize.ShloMosaic.Lib.WholeRead

/-!
# What the preparing call leaves, over the ideal numbers

With the rows of `u` real once divided by their lengths, the scratch ends as the back-substitution's matrix, the first
output as six blocks of rows (`uhsR`) and the second as `T`'s transpose times the rows, then zero (`vsR`).
-/

@[expose] public section
set_option maxRecDepth 16384
noncomputable section
namespace Cert.Proof.Hra
open Cert.KernelIdeal Cert.KernelIdeal.Gen
open Idealize.ShloMosaic Idealize.ShloMosaic.TcCoe Idealize.ShloMosaic.Tactic

/-- The rows of `u`, each divided by its length. -/
def uhf (u : Vec Ideal S32x7168 .f32) (r : Fin 32) (k : Fin 7168) : EReal :=
  Ideal.div (u (ix2 r k)) (Ideal.sqrt (∑ x : Fin 7168, u (ix2 r x) * u (ix2 r x)))

/-- The strictly upper part of the Gram matrix of the rows. -/
def strict (u : Vec Ideal S32x7168 .f32) (i j : Fin 32) : EReal :=
  if i.val < j.val then ∑ x : Fin 7168, uhf u i x * uhf u j x else 0

/-- The word of the number two. -/
theorem two_f32 : Ideal.ofBits FTy.f32 1073741824#32 = 2 := by
  have : ((8388608 * (2 ^ 22)⁻¹ : ℝ) : EReal) = 2 := by
    rw [show (8388608 * (2 ^ 22)⁻¹ : ℝ) = 2 by norm_num]; rfl
  simp [Ideal.ofBits, Ideal.ieee]
  rw [← EReal.coe_mul]
  simpa using this

/-- Small words are equal when their numbers are. -/
theorem ofNat_eq_iff (a b : ℕ) (ha : a < 32) (hb : b < 32) : BitVec.ofNat 32 a = BitVec.ofNat 32 b ↔ a = b := by
  constructor
  · intro h
    have := congrArg BitVec.toNat h
    simp only [BitVec.toNat_ofNat] at this
    omega
  · rintro rfl; rfl

/-- Small words compare as their numbers do. -/
theorem slt_small (a b : ℕ) (ha : a < 32) (hb : b < 32) : (BitVec.ofNat 32 b).slt (BitVec.ofNat 32 a) = decide (b < a) := by
  have hi : ∀ n : ℕ, n < 32 → (BitVec.ofNat 32 n).toInt = n := fun n hn => by
    rw [BitVec.toInt_eq_toNat_cond, BitVec.toNat_ofNat, Nat.mod_eq_of_lt (by omega), if_pos (by omega)]
  rw [BitVec.slt_eq_decide, hi a ha, hi b hb]
  simp

/-- The row one step of the recurrence stores. -/
theorem rowPay_apply (i : ℕ) (h : i < 32) (at' S : FVec Ideal S32x32 .f32) (r : Fin 1) (c : Fin 32) :
    rowPay i h at' S (ix2 r c) = (2:EReal) * ((if c = (⟨i, h⟩ : Fin 32) then (1:EReal) else 0) - ∑ j : Fin 32, at' (ix2 j ⟨i, h⟩) * S (ix2 j c)) := by
  pointwise [rowPay]
  rw [two_f32]
  congr 2
  simp only [Scalar.select, IntOp.cmpi]
  by_cases hc : c = ⟨i, h⟩
  · subst hc; simp
  · rw [if_neg hc]
    have : BitVec.ofNat 32 c.val ≠ BitVec.ofNat 32 i := fun e => hc (Fin.ext ((ofNat_eq_iff _ _ c.2 h).mp e))
    have e : (BitVec.ofNat 32 c.val == BitVec.ofNat 32 i) = false := by simpa using this
    simp only [e]
    simp

/-- The unit rows, entry by entry. -/
theorem pay2_apply (u : Vec Ideal S32x7168 .f32) (r : Fin 32) (k : Fin 7168) :
    k0_pay2 u (ix2 r k) = uhf u r k := by
  pointwise [k0_pay2]
  rfl

/-- The strictly upper part, transposed. -/
theorem pay3_apply (u : Vec Ideal S32x7168 .f32) (j i : Fin 32) :
    k0_pay3 u (ix2 j i) = strict u i j := by
  pointwise [k0_pay3]
  simp only [Scalar.select, IntOp.cmpi, pay2_apply, slt_small _ _ j.2 i.2]
  unfold strict
  by_cases h : i.val < j.val
  · simp [h]
  · simp [h]

/-- The whole square, read at its own index. -/
theorem full32_idx (j : S32x32.Idx) : (Rect.unit (s := S32x32) ![0, 0] S32x32.size inb_S32x32_S32x32_0_0).toLoadRect.idx j = j := by
  funext a
  fin_cases a <;> exact Fin.ext (by simp [LoadRect.idx])

/-- After `k` stored rows the square holds `k` steps of the recurrence. -/
theorem tPieces_canon (v : View sig .tc .vmem S32x32 .f32) (at' : FVec Ideal S32x32 .f32) : ∀ k r c,
    View.canon (Val := Elt Ideal) (tPieces v at' k) (ix2 r c) = back (fun i j => at' (ix2 j i)) k r c
  | 0, r, c => by
    show View.canon (Val := Elt Ideal) [_] _ = 0
    refine (congrFun (Idealize.ShloMosaic.View.canon_cons_unit_lit (S := S32x32) (Val := Elt Ideal) (e := .f32) (off := ![0, 0]) inb_S32x32_S32x32_0_0 (k0_pay4 (F := Ideal)) [] (by decide)) _).trans ?_
    pointwise [k0_pay4]
  | k + 1, r, c => by
    show View.canon (Val := Elt Ideal) (_ :: tPieces v at' k) _ = backStep _ (rowAt k) (back _ k) r c
    unfold backStep
    by_cases h : r = rowAt k
    · rw [if_pos h]
      have e : (ix2 r c : S32x32.Idx) = (Rect.unit (s := S32x32) ![31 - k, 0] S1x32.size (inb_row (31 - k) (by omega))).emb (ix2 (0 : Fin 1) c) := by
        subst h
        funext a
        fin_cases a
        · exact Fin.ext (show 31 - k = (31 - k) + 1 * 0 by omega)
        · exact Fin.ext (show c.val = 0 + 1 * c.val by omega)
      rw [e, View.canon_cons_emb]
      refine (rowPay_apply _ _ _ _ _ _).trans ?_
      have hc : ∀ j : Fin 32, v.readCov (tPieces v at' k) (Rect.unit (s := S32x32) ![0, 0] S32x32.size inb_S32x32_S32x32_0_0).toLoadRect (ix2 j c)
          = back (fun i j => at' (ix2 j i)) k j c := fun j => by
        rw [← tPieces_canon v at' k, View.readCov_eq_canon']
        exact congrArg (View.canon (tPieces v at' k)) (full32_idx _)
      show (2 : EReal) * (_ - ∑ j, _ * v.readCov (tPieces v at' k) (Rect.unit (s := S32x32) ![0, 0] S32x32.size inb_S32x32_S32x32_0_0).toLoadRect (ix2 j c)) = _
      simp only [hc]
      rfl
    · rw [if_neg h, View.canon_cons_of_not_mem, tPieces_canon v at' k]
      rw [Rect.mem_set_unit]
      intro hm
      apply h
      have h0 := hm 0
      apply Fin.ext
      have h1 : 31 - k ≤ r.val := h0.1
      have h2 : r.val < 31 - k + 1 := h0.2
      show r.val = 31 - k
      omega

/-- The first factor's block, entry by entry. -/
theorem pay62_apply (v : FVec Ideal S32x7168 .f32) (S : Vec Ideal S32x32 .f32) (U : Fin 32 → Fin 7168 → ℝ) (T : Fin 32 → Fin 32 → ℝ)
    (hv : ∀ r k, v (ix2 r k) = ↑(U r k)) (hS : ∀ r c, S (ix2 r c) = ↑(T r c)) (r : Fin 96) (k : Fin 7168) :
    (k0_pay62 v S) (ix2 r k) = ((if h : r.val < 32 then ∑ j, T j ⟨r.val, h⟩ * U j k else 0 : ℝ) : EReal) := by
  pointwise [k0_pay62]
  simp only [hv, hS, ← EReal.coe_mul, ← coe_sum, ← EReal.coe_sub, sub_self]
  by_cases h : r.val < 32
  · rw [dif_pos h, dif_pos h]
  · rw [dif_neg h, dif_neg h]
    split <;> rfl

/-- The six blocks of the second factor: the rows, the rows, nothing twice, the rows, nothing. -/
def uhsR (U : Fin 32 → Fin 7168 → ℝ) (r : Fin 192) (k : Fin 7168) : ℝ :=
  if h : r.val < 32 then U ⟨r.val, h⟩ k
  else if h : r.val - 32 < 32 then U ⟨r.val - 32, h⟩ k
  else if r.val - 32 - 32 < 32 then 0
  else if r.val - 32 - 32 - 32 < 32 then 0
  else if h : r.val - 32 - 32 - 32 - 32 < 32 then U ⟨_, h⟩ k
  else 0

/-- The second factor, entry by entry. -/
theorem pay1_apply (v : FVec Ideal S32x7168 .f32) (U : Fin 32 → Fin 7168 → ℝ)
    (hv : ∀ r k, v (ix2 r k) = ↑(U r k)) (r : Fin 192) (k : Fin 7168) :
    (k0_pay1 (k0_pay63 v) (k0_pay64 v) (k0_pay65 v) (k0_pay66 v)) (ix2 r k) = (uhsR U r k : EReal) := by
  pointwise [k0_pay1, k0_pay63, k0_pay64, k0_pay65, k0_pay66]
  simp only [hv, ← EReal.coe_mul, ← coe_sum, ← EReal.coe_sub, sub_self]
  unfold uhsR
  split_ifs <;> rfl

/-- The strictly upper coefficients over the reals. -/
def alphaR (U : Fin 32 → Fin 7168 → ℝ) (i j : Fin 32) : ℝ := if i.val < j.val then ∑ x, U i x * U j x else 0

/-- The triangular matrix over the reals. -/
def TR (U : Fin 32 → Fin 7168 → ℝ) : Fin 32 → Fin 32 → ℝ := backR (alphaR U) 32

/-- The first factor: the triangular matrix's transpose times the rows, then nothing. -/
def vsR (U : Fin 32 → Fin 7168 → ℝ) (r : Fin 96) (k : Fin 7168) : ℝ :=
  if h : r.val < 32 then ∑ j, TR U j ⟨r.val, h⟩ * U j k else 0

/-- The strictly upper part is real. -/
theorem strict_coe (u : Vec Ideal S32x7168 .f32) (U : Fin 32 → Fin 7168 → ℝ) (hU : ∀ r k, uhf u r k = ↑(U r k)) :
    strict u = fun i j => (alphaR U i j : EReal) := by
  funext i j
  unfold strict alphaR
  simp only [hU, ← EReal.coe_mul, ← coe_sum]
  split_ifs <;> rfl

section Outs
variable (c : Dev nD) (arg0 : Memref sig .tc .vmem S32x7168 .f32) (harg0 : arg0.IsWhole) (arg1 : Memref sig .tc .vmem S192x7168 .bf16) (harg1 : arg1.IsWhole)
  (arg2 : Memref sig .tc .vmem S96x7168 .bf16) (harg2 : arg2.IsWhole) (arg3 : Memref sig .tc .vmem S32x32 .f32) (harg3 : arg3.IsWhole) (u : Vec Ideal S32x7168 .f32)
  (U : Fin 32 → Fin 7168 → ℝ) (hU : ∀ r k, uhf u r k = ↑(U r k))

/-- The region loads `u` whole. -/
theorem ldU_eq : ldU arg0 harg0 u = u := by
  funext j
  refine (Memref.IsWhole.readAt_unread harg0 u (Rect.unit (s := S32x7168) ![0, 0] S32x7168.size inb_S32x7168_S32x7168_0_0).toLoadRect j).trans (congrArg u ?_)
  funext a
  fin_cases a
  · exact Fin.ext (show 0 + 1 * (j 0).val = (j 0).val by omega)
  · exact Fin.ext (show 0 + 1 * (j 1).val = (j 1).val by omega)

include hU in
/-- The region's first result, entry by entry. -/
theorem out0_A_1_apply (r : Fin 192) (k : Fin 7168) :
    out0_A_1 c arg0 harg0 arg1 harg1 arg2 harg2 arg3 harg3 u (ix2 r k) = (uhsR U r k : EReal) := by
  unfold out0_A_1
  rw [View.read_writes_junk_eq_canon, prep_pieces1]
  refine (congrFun (Idealize.ShloMosaic.View.canon_cons_unit_lit (S := S192x7168) (Val := Elt Ideal) (e := .bf16) (off := ![0, 0]) inb_S192x7168_S192x7168_0_0 _ [] (by decide)) _).trans ?_
  rw [ldU_eq]
  exact pay1_apply _ U (fun r k => (pay2_apply u r k).trans (hU r k)) r k

include hU in
/-- The region's second result, entry by entry. -/
theorem out0_A_2_apply (r : Fin 96) (k : Fin 7168) :
    out0_A_2 c arg0 harg0 arg1 harg1 arg2 harg2 arg3 harg3 u (ix2 r k) = (vsR U r k : EReal) := by
  unfold out0_A_2
  rw [View.read_writes_junk_eq_canon, prep_pieces2]
  refine (congrFun (Idealize.ShloMosaic.View.canon_cons_unit_lit (S := S96x7168) (Val := Elt Ideal) (e := .bf16) (off := ![0, 0]) inb_S96x7168_S96x7168_0_0 _ [] (by decide)) _).trans ?_
  rw [ldU_eq]
  refine pay62_apply _ _ U (TR U) (fun r k => (pay2_apply u r k).trans (hU r k)) (fun i j => ?_) r k
  rw [View.readCov_eq_canon']
  refine (congrArg (View.canon _) (full32_idx _)).trans ?_
  rw [tPieces_canon]
  have e : (fun i j => k0_pay3 (F := Ideal) u (ix2 j i)) = fun i j => (alphaR U i j : EReal) := by
    rw [← strict_coe u U hU]; funext i j; exact pay3_apply u j i
  rw [e, back_coe]
  rfl
end Outs

end Cert.Proof.Hra
end
-- ==== Proof.MainIdeal.lean ====
module

public import proofs.«01_k».proof.Proof.MainRegion
public import proofs.«01_k».proof.Proof.PrepIdeal
public import Idealize.ShloMosaic.Lib.Pipeline.ReadBack

/-!
# What the main call leaves at a grid point, over the ideal numbers

A block of rows loses its part along the rows of `u`: the six blocks of the two factors pair so that only the first
contributes. The corrected rows are then multiplied by the unpacked weights, 512 columns at a time.
-/

@[expose] public section
set_option maxRecDepth 16384
noncomputable section
namespace Cert.Proof.Hra
open Cert.KernelIdeal Cert.KernelIdeal.Gen
open Idealize.ShloMosaic Idealize.ShloMosaic.TcCoe Idealize.ShloMosaic.Tactic

/-- A row's coordinates along the rows of `u`. -/
def qR (U : Fin 32 → Fin 7168 → ℝ) (X : Fin 7168 → ℝ) (r : Fin 32) : ℝ := ∑ k, (∑ j, TR U j r * U j k) * X k

/-- A row less its part along the rows of `u`. -/
def zbR (U : Fin 32 → Fin 7168 → ℝ) (X : Fin 7168 → ℝ) (d : Fin 7168) : ℝ := X d - ∑ r, qR U X r * U r d

/-- The six blocks of the first factor: the coordinates, nothing, the coordinates, nothing twice, the coordinates. -/
def qsR (Q : Fin 32 → ℝ) (p : Fin 192) : ℝ :=
  if h : p.val < 32 then Q ⟨p.val, h⟩
  else if p.val - 32 < 32 then 0
  else if h : p.val - 32 - 32 < 32 then Q ⟨p.val - 32 - 32, h⟩
  else if p.val - 32 - 32 - 32 < 32 then 0
  else if p.val - 32 - 32 - 32 - 32 < 32 then 0
  else Q ⟨p.val - 32 - 32 - 32 - 32 - 32, by omega⟩

/-- Over the six blocks, the product is the coordinates times the rows once. -/
theorem sum_qs (Q : Fin 32 → ℝ) (U : Fin 32 → Fin 7168 → ℝ) (d : Fin 7168) :
    ∑ p, qsR Q p * uhsR U p d = ∑ r, Q r * U r d := by
  rw [Fin.sum_univ_add (a := 32) (b := 160) (fun p : Fin (32 + 160) => qsR Q p * uhsR U p d)]
  rw [Finset.sum_eq_zero (s := Finset.univ) (f := fun i : Fin 160 => qsR Q (Fin.natAdd 32 i) * uhsR U (Fin.natAdd 32 i) d), add_zero]
  · refine Finset.sum_congr rfl fun r _ => ?_
    unfold qsR uhsR
    rw [dif_pos (show (Fin.castAdd 160 r).val < 32 from r.2), dif_pos (show (Fin.castAdd 160 r).val < 32 from r.2)]
    rfl
  · intro i _
    have h0 : (Fin.natAdd 32 i).val = 32 + i.val := rfl
    unfold qsR uhsR
    split_ifs <;> first | (exfalso; omega) | simp

/-- A coordinate is the sum of the three blocks of the first factor against the row. -/
theorem vsR_q (U : Fin 32 → Fin 7168 → ℝ) (X : Fin 7168 → ℝ) (r : ℕ) (h : r < 32) (h1 : r < 96) (h2 : 32 + r < 96) (h3 : 64 + r < 96) :
    ∑ k, vsR U ⟨r, h1⟩ k * X k + ∑ k, vsR U ⟨32 + r, h2⟩ k * X k + ∑ k, vsR U ⟨64 + r, h3⟩ k * X k = qR U X ⟨r, h⟩ := by
  have e2 : ∀ k, vsR U ⟨32 + r, h2⟩ k = 0 := fun k => dif_neg (show ¬ 32 + r < 32 by omega)
  have e3 : ∀ k, vsR U ⟨64 + r, h3⟩ k = 0 := fun k => dif_neg (show ¬ 64 + r < 32 by omega)
  have e1 : ∀ k, vsR U ⟨r, h1⟩ k = ∑ j, TR U j ⟨r, h⟩ * U j k := fun k => dif_pos h
  simp only [e1, e2, e3, zero_mul, Finset.sum_const_zero, add_zero]
  rfl

/-- The six blocks of coordinates, entry by entry. -/
theorem pay108_apply (x : Vec Ideal S256x7168 .bf16) (vs : Vec Ideal S96x7168 .bf16) (S : Fin 96 → ℝ) (r : Fin 256) (p : Fin 192)
    (hq : ∀ p, ∑ k : Fin 7168, vs (ix2 p k) * x (ix2 r k) = (S p : EReal)) :
    k1_pay108 x vs (ix2 r p) = (qsR (fun q => S ⟨q.val, by omega⟩ + S ⟨32 + q.val, by omega⟩ + S ⟨64 + q.val, by omega⟩) p : EReal) := by
  pointwise [k1_pay108]
  simp only [hq, ← EReal.coe_add, ← EReal.coe_sub, sub_self]
  unfold qsR
  split_ifs <;> rfl

/-- A row of the six blocks is real. -/
theorem row_coe (x : Vec Ideal S256x7168 .bf16) (vs : Vec Ideal S96x7168 .bf16) (U : Fin 32 → Fin 7168 → ℝ) (X : Fin 7168 → ℝ) (r : Fin 256)
    (hx : ∀ k, x (ix2 r k) = ↑(X k)) (hvs : ∀ p k, vs (ix2 p k) = ↑(vsR U p k)) (p : Fin 96) :
    ∑ k : Fin 7168, vs (ix2 p k) * x (ix2 r k) = ((∑ k, vsR U p k * X k : ℝ) : EReal) := by
  rw [coe_sum]
  exact Finset.sum_congr rfl fun k _ => by rw [hx, hvs, EReal.coe_mul]

/-- A slice of the projected rows, entry by entry. -/
theorem pay109_apply (x : Vec Ideal S256x7168 .bf16) (vs : Vec Ideal S96x7168 .bf16) (uhs : Vec Ideal S192x1024 .bf16) (xb : Vec Ideal S256x1024 .bf16)
    (U : Fin 32 → Fin 7168 → ℝ) (X : Fin 7168 → ℝ) (r : Fin 256) (d : Fin 1024) (D : Fin 7168)
    (hx : ∀ k, x (ix2 r k) = ↑(X k)) (hxb : xb (ix2 r d) = ↑(X D)) (hvs : ∀ p k, vs (ix2 p k) = ↑(vsR U p k)) (hu : ∀ p, uhs (ix2 p d) = ↑(uhsR U p D)) :
    k1_pay109 x vs uhs xb (ix2 r d) = (zbR U X D : EReal) := by
  have e : k1_pay109 x vs uhs xb (ix2 r d) = xb (ix2 r d) - ∑ p : Fin 192, k1_pay108 x vs (ix2 r p) * uhs (ix2 p d) := by
    pointwise [k1_pay109]
  have hQ : (fun q : Fin 32 => ∑ k, vsR U ⟨q.val, by omega⟩ k * X k + ∑ k, vsR U ⟨32 + q.val, by omega⟩ k * X k + ∑ k, vsR U ⟨64 + q.val, by omega⟩ k * X k)
      = qR U X := funext fun q => vsR_q U X q.val q.2 _ _ _
  rw [e, hxb, zbR, ← sum_qs, EReal.coe_sub, coe_sum]
  congr 1
  refine Finset.sum_congr rfl fun p _ => ?_
  rw [EReal.coe_mul, hu, pay108_apply x vs _ r p (row_coe x vs U X r hx hvs), hQ]

/-- A slice of the product, entry by entry. -/
theorem mpay1_apply (zb : Vec Ideal S256x7168 .bf16) (w : Vec Ideal S7168x512 .bf16) (r : Fin 256) (n : Fin 512) :
    k1_pay1 zb w (ix2 r n) = ∑ d : Fin 7168, zb (ix2 r d) * w (ix2 d n) := by
  pointwise [k1_pay1]

/-! ## The stores cover the block, each at its columns -/

/-- Every stored slice of projected rows is a slice of one array. -/
theorem zb_piece (arg1 : Memref sig .tc .vmem S256x7168 .bf16) (harg1 : arg1.IsWhole) (arg2 : Memref sig .tc .vmem S96x7168 .bf16) (harg2 : arg2.IsWhole)
    (arg3 : Memref sig .tc .vmem S192x7168 .bf16) (harg3 : arg3.IsWhole) (x0 : Vec Ideal S256x7168 .bf16) (x1 : Vec Ideal S96x7168 .bf16) (x2 : Vec Ideal S192x7168 .bf16)
    (U : Fin 32 → Fin 7168 → ℝ) (X : Fin 256 → Fin 7168 → ℝ) (hx : ∀ r k, x0 (ix2 r k) = ↑(X r k)) (hvs : ∀ p k, x1 (ix2 p k) = ↑(vsR U p k))
    (hu : ∀ p k, x2 (ix2 p k) = ↑(uhsR U p k)) (o : ℕ) (inb : ∀ a, (![0, o] : Fin 2 → ℕ) a + S256x1024.size a ≤ S256x7168.size a)
    (inb' : ∀ a, (![0, o] : Fin 2 → ℕ) a + S192x1024.size a ≤ S192x7168.size a) (y : S256x1024.Idx) :
    k1_pay109
        (arg1.view.readAt (Elt Ideal) (Rect.unit (s := S256x7168) ![0, 0] S256x7168.size inb_S256x7168_S256x7168_0_0).toLoadRect (harg1.unread x0))
        (arg2.view.readAt (Elt Ideal) (Rect.unit (s := S96x7168) ![0, 0] S96x7168.size inb_S96x7168_S96x7168_0_0).toLoadRect (harg2.unread x1))
        (arg3.view.readAt (Elt Ideal) (Rect.unit (s := S192x7168) ![0, o] S192x1024.size inb').toLoadRect (harg3.unread x2))
        (arg1.view.readAt (Elt Ideal) (Rect.unit (s := S256x7168) ![0, o] S256x1024.size inb).toLoadRect (harg1.unread x0)) y
      = (fun Y : S256x7168.Idx => (zbR U (X (Y 0)) (Y 1) : EReal)) ((Rect.unit (s := S256x7168) ![0, o] S256x1024.size inb).emb y) := by
  obtain ⟨r, d, rfl⟩ : ∃ (r : Fin 256) (d : Fin 1024), y = ix2 r d := ⟨y 0, y 1, by funext a; fin_cases a <;> rfl⟩
  have ho : o + 1024 ≤ 7168 := inb 1
  have e : (Rect.unit (s := S256x7168) ![0, o] S256x1024.size inb).emb (ix2 r d) = ix2 r (⟨o + d.val, by omega⟩ : Fin 7168) := by
    funext a
    fin_cases a
    · exact Fin.ext (show 0 + 1 * r.val = r.val by omega)
    · exact Fin.ext (show o + 1 * d.val = o + d.val by omega)
  rw [e]
  refine pay109_apply _ _ _ _ U (X r) r d ⟨o + d.val, by omega⟩ (fun k => ?_) ?_ (fun p k => ?_) (fun p => ?_)
  · refine (Memref.IsWhole.readAt_unread harg1 x0 (Rect.unit (s := S256x7168) ![0, 0] S256x7168.size inb_S256x7168_S256x7168_0_0).toLoadRect (ix2 r k)).trans ((congrArg x0 ?_).trans (hx r k))
    funext a
    fin_cases a
    · exact Fin.ext (show 0 + 1 * r.val = r.val by omega)
    · exact Fin.ext (show 0 + 1 * k.val = k.val by omega)
  · exact (Memref.IsWhole.readAt_unread harg1 x0 (Rect.unit (s := S256x7168) ![0, o] S256x1024.size inb).toLoadRect (ix2 r d)).trans ((congrArg x0 e).trans (hx r _))
  · refine (Memref.IsWhole.readAt_unread harg2 x1 (Rect.unit (s := S96x7168) ![0, 0] S96x7168.size inb_S96x7168_S96x7168_0_0).toLoadRect (ix2 p k)).trans ((congrArg x1 ?_).trans (hvs p k))
    funext a
    fin_cases a
    · exact Fin.ext (show 0 + 1 * p.val = p.val by omega)
    · exact Fin.ext (show 0 + 1 * k.val = k.val by omega)
  · refine (Memref.IsWhole.readAt_unread harg3 x2 (Rect.unit (s := S192x7168) ![0, o] S192x1024.size inb').toLoadRect (ix2 p d)).trans ((congrArg x2 ?_).trans (hu p _))
    funext a
    fin_cases a
    · exact Fin.ext (show 0 + 1 * p.val = p.val by omega)
    · exact Fin.ext (show o + 1 * d.val = o + d.val by omega)

/-- The block of corrected rows. -/
theorem zb_canon (arg1 : Memref sig .tc .vmem S256x7168 .bf16) (harg1 : arg1.IsWhole) (arg2 : Memref sig .tc .vmem S96x7168 .bf16) (harg2 : arg2.IsWhole)
    (arg3 : Memref sig .tc .vmem S192x7168 .bf16) (harg3 : arg3.IsWhole) (x0 : Vec Ideal S256x7168 .bf16) (x1 : Vec Ideal S96x7168 .bf16) (x2 : Vec Ideal S192x7168 .bf16)
    (U : Fin 32 → Fin 7168 → ℝ) (X : Fin 256 → Fin 7168 → ℝ) (hx : ∀ r k, x0 (ix2 r k) = ↑(X r k)) (hvs : ∀ p k, x1 (ix2 p k) = ↑(vsR U p k))
    (hu : ∀ p k, x2 (ix2 p k) = ↑(uhsR U p k)) (r : Fin 256) (k : Fin 7168) :
    View.canon (Val := Elt Ideal) (zbPieces arg1 harg1 arg2 harg2 arg3 harg3 x0 x1 x2) (ix2 r k) = (zbR U (X r) k : EReal) := by
  have h : View.PiecesOf (Val := Elt Ideal) (fun Y : S256x7168.Idx => (zbR U (X (Y 0)) (Y 1) : EReal)) (zbPieces arg1 harg1 arg2 harg2 arg3 harg3 x0 x1 x2) := by
    unfold zbPieces
    exact ⟨zb_piece arg1 harg1 arg2 harg2 arg3 harg3 x0 x1 x2 U X hx hvs hu 6144 inb_S256x7168_S256x1024_0_6144 inb_S192x7168_S192x1024_0_6144, zb_piece arg1 harg1 arg2 harg2 arg3 harg3 x0 x1 x2 U X hx hvs hu 5120 inb_S256x7168_S256x1024_0_5120 inb_S192x7168_S192x1024_0_5120,
      zb_piece arg1 harg1 arg2 harg2 arg3 harg3 x0 x1 x2 U X hx hvs hu 4096 inb_S256x7168_S256x1024_0_4096 inb_S192x7168_S192x1024_0_4096, zb_piece arg1 harg1 arg2 harg2 arg3 harg3 x0 x1 x2 U X hx hvs hu 3072 inb_S256x7168_S256x1024_0_3072 inb_S192x7168_S192x1024_0_3072,
      zb_piece arg1 harg1 arg2 harg2 arg3 harg3 x0 x1 x2 U X hx hvs hu 2048 inb_S256x7168_S256x1024_0_2048 inb_S192x7168_S192x1024_0_2048, zb_piece arg1 harg1 arg2 harg2 arg3 harg3 x0 x1 x2 U X hx hvs hu 1024 inb_S256x7168_S256x1024_0_1024 inb_S192x7168_S192x1024_0_1024,
      zb_piece arg1 harg1 arg2 harg2 arg3 harg3 x0 x1 x2 U X hx hvs hu 0 inb_S256x7168_S256x1024_0_0 inb_S192x7168_S192x1024_0_0, trivial⟩
  have := View.canon_append_of_piecesOf (Val := Elt Ideal) _ [] _ h (ix2 r k) (View.cover_of_tiledL (zbPieces arg1 harg1 arg2 harg2 arg3 harg3 x0 x1 x2) S256x1024.size (by sl_kernel_rfl) (ix2 r k))
  rw [List.append_nil] at this
  exact this

/-- Every stored slice of the product is a slice of one array. -/
theorem y_piece (zb : Vec Ideal S256x7168 .bf16) (zb' : Fin 256 → Fin 7168 → EReal) (hz : ∀ r k, zb (ix2 r k) = zb' r k)
    (wf : S7168x2560.Idx → EReal) (o : ℕ) (inb : ∀ a, (![0, o] : Fin 2 → ℕ) a + S256x512.size a ≤ S256x2560.size a)
    (inb' : ∀ a, (![0, o] : Fin 2 → ℕ) a + S7168x512.size a ≤ S7168x2560.size a) (y : S256x512.Idx) :
    k1_pay1 (F := Ideal) zb (wM.view.readAt (Elt Ideal) (Rect.unit (s := S7168x2560) ![0, o] S7168x512.size inb').toLoadRect wf) y
      = (fun Y : S256x2560.Idx => ∑ k : Fin 7168, zb' (Y 0) k * wf (ix2 k (Y 1))) ((Rect.unit (s := S256x2560) ![0, o] S256x512.size inb).emb y) := by
  obtain ⟨r, d, rfl⟩ : ∃ (r : Fin 256) (d : Fin 512), y = ix2 r d := ⟨y 0, y 1, by funext a; fin_cases a <;> rfl⟩
  have ho : o + 512 ≤ 2560 := inb 1
  have e : (Rect.unit (s := S256x2560) ![0, o] S256x512.size inb).emb (ix2 r d) = ix2 r (⟨o + d.val, by omega⟩ : Fin 2560) := by
    funext a
    fin_cases a
    · exact Fin.ext (show 0 + 1 * r.val = r.val by omega)
    · exact Fin.ext (show o + 1 * d.val = o + d.val by omega)
  rw [e, mpay1_apply]
  refine Finset.sum_congr rfl fun k _ => ?_
  rw [hz]
  refine congrArg (zb' r k * ·) ?_
  refine congrArg wf ?_
  funext a
  fin_cases a
  · exact Fin.ext (show 0 + 1 * k.val = k.val by omega)
  · exact Fin.ext (show o + 1 * d.val = o + d.val by omega)

/-- The block of products. -/
theorem y_canon (c : Dev nD) (arg1 : Memref sig .tc .vmem S256x7168 .bf16) (harg1 : arg1.IsWhole) (arg2 : Memref sig .tc .vmem S96x7168 .bf16) (harg2 : arg2.IsWhole)
    (arg3 : Memref sig .tc .vmem S192x7168 .bf16) (harg3 : arg3.IsWhole) (arg8 : Memref sig .tc .vmem S256x7168 .bf16) (x0 : Vec Ideal S256x7168 .bf16) (x1 : Vec Ideal S96x7168 .bf16) (x2 : Vec Ideal S192x7168 .bf16)
    (U : Fin 32 → Fin 7168 → ℝ) (X : Fin 256 → Fin 7168 → ℝ) (hx : ∀ r k, x0 (ix2 r k) = ↑(X r k)) (hvs : ∀ p k, x1 (ix2 p k) = ↑(vsR U p k))
    (hu : ∀ p k, x2 (ix2 p k) = ↑(uhsR U p k)) (wf : S7168x2560.Idx → EReal) (r : Fin 256) (n : Fin 2560) :
    View.canon (Val := Elt Ideal) (yPieces c arg1 harg1 arg2 harg2 arg3 harg3 arg8 x0 x1 x2 wf) (ix2 r n) = ∑ k : Fin 7168, (zbR U (X r) k : EReal) * wf (ix2 k n) := by
  have hz : ∀ r k, arg8.view.readCov (zbPieces arg1 harg1 arg2 harg2 arg3 harg3 x0 x1 x2)
      (Rect.unit (s := S256x7168) ![0, 0] S256x7168.size inb_S256x7168_S256x7168_0_0).toLoadRect (ix2 r k) = (zbR U (X r) k : EReal) := fun r k => by
    rw [View.readCov_eq_canon', ← zb_canon arg1 harg1 arg2 harg2 arg3 harg3 x0 x1 x2 U X hx hvs hu r k]
    refine congrArg (View.canon _) ?_
    funext a
    fin_cases a
    · exact Fin.ext (show 0 + 1 * r.val = r.val by omega)
    · exact Fin.ext (show 0 + 1 * k.val = k.val by omega)
  have h : View.PiecesOf (Val := Elt Ideal) (fun Y : S256x2560.Idx => ∑ k : Fin 7168, (zbR U (X (Y 0)) k : EReal) * wf (ix2 k (Y 1))) (yPieces c arg1 harg1 arg2 harg2 arg3 harg3 arg8 x0 x1 x2 wf) := by
    unfold yPieces
    exact ⟨y_piece _ (fun r k => (zbR U (X r) k : EReal)) hz wf 2048 inb_S256x2560_S256x512_0_2048 inb_S7168x2560_S7168x512_0_2048, y_piece _ (fun r k => (zbR U (X r) k : EReal)) hz wf 1536 inb_S256x2560_S256x512_0_1536 inb_S7168x2560_S7168x512_0_1536,
      y_piece _ (fun r k => (zbR U (X r) k : EReal)) hz wf 1024 inb_S256x2560_S256x512_0_1024 inb_S7168x2560_S7168x512_0_1024, y_piece _ (fun r k => (zbR U (X r) k : EReal)) hz wf 512 inb_S256x2560_S256x512_0_512 inb_S7168x2560_S7168x512_0_512,
      y_piece _ (fun r k => (zbR U (X r) k : EReal)) hz wf 0 inb_S256x2560_S256x512_0_0 inb_S7168x2560_S7168x512_0_0, trivial⟩
  have := View.canon_append_of_piecesOf (Val := Elt Ideal) _ [] _ h (ix2 r n) (View.cover_of_tiledL (yPieces c arg1 harg1 arg2 harg2 arg3 harg3 arg8 x0 x1 x2 wf) S256x512.size (by sl_kernel_rfl) (ix2 r n))
  rw [List.append_nil] at this
  exact this

end Cert.Proof.Hra
end
-- ==== Proof.KernelValue.lean ====
module

public import proofs.«01_k».proof.Proof.Run
public import proofs.«01_k».proof.Proof.MainIdeal

/-!
# What the kernel returns, over the ideal numbers
-/

@[expose] public section
set_option maxRecDepth 16384
noncomputable section
namespace Cert.Proof.Hra
open Cert.KernelIdeal Cert.KernelIdeal.Gen
open Idealize.ShloMosaic Idealize.ShloMosaic.TcCoe Idealize.ShloMosaic.Tactic

/-- The first region's blocks all start at zero. -/
theorem idx0_0 : ∀ (t : Fin cfg0.N) a, win0_0.index t a = 0 := by decide +kernel
/-- So does its first result's block. -/
theorem idx0_1 : ∀ (t : Fin cfg0.N) a, win0_1.index t a = 0 := by decide +kernel
/-- So does its second result's block. -/
theorem idx0_2 : ∀ (t : Fin cfg0.N) a, win0_2.index t a = 0 := by decide +kernel
/-- The second region's rows of `x` are taken a block at a time. -/
theorem idx1_0 : ∀ (t : Fin cfg1.N), win1_0.index t 0 = t.val ∧ win1_0.index t 1 = 0 := by decide +kernel
/-- The second region takes the first factor whole. -/
theorem idx1_1 : ∀ (t : Fin cfg1.N) a, win1_1.index t a = 0 := by decide +kernel
/-- It takes the second factor whole. -/
theorem idx1_2 : ∀ (t : Fin cfg1.N) a, win1_2.index t a = 0 := by decide +kernel
/-- It takes the scales whole. -/
theorem idx1_3 : ∀ (t : Fin cfg1.N) a, win1_3.index t a = 0 := by decide +kernel
/-- It takes the zeros whole. -/
theorem idx1_4 : ∀ (t : Fin cfg1.N) a, win1_4.index t a = 0 := by decide +kernel
/-- The rows of the product are written a block at a time. -/
theorem idx1_5 : ∀ (t : Fin cfg1.N), win1_5.index t 0 = t.val ∧ win1_5.index t 1 = 0 := by decide +kernel
/-- So are the projected rows. -/
theorem idx1_6 : ∀ (t : Fin cfg1.N), win1_6.index t 0 = t.val ∧ win1_6.index t 1 = 0 := by decide +kernel

/-- A function on pairs of coordinates, known at every pair. -/
theorem eta2 {a b : ℕ} {α : Type} (f : (⟨2, ![a, b]⟩ : Shape).Idx → α) (g : Fin a → Fin b → α) (h : ∀ r k, f (ix2 r k) = g r k) (y : (⟨2, ![a, b]⟩ : Shape).Idx) : f y = g (y 0) (y 1) :=
  (congrArg f (show y = ix2 (y 0) (y 1) from by funext i; fin_cases i <;> rfl)).trans (h (y 0) (y 1))

section Region0
variable (V : (c : Dev nD) → (b : Ref sig .tc) → Buf (Elt Ideal) ((c : Thread nD τ).loc b)) (c : Dev nD) (t : Fin cfg0.N)

/-- The first region reads `u` whole. -/
theorem iblk0_0 : iblk0 V c 0 t = (V c main_arg1 : S32x7168.Idx → EReal) := by
  funext y
  blk_ext [iblk0, idx0_0]

variable (U : Fin 32 → Fin 7168 → ℝ) (hU : ∀ r k, uhf (V c main_arg1) r k = ↑(U r k))

omit U in
/-- The first result of the first region, as a function of `u`. -/
theorem outsAt0_1 : (outsAt0 V c t).1 = out0_A_1 c (ms0_0 t) (hs0_0 t) (ms0_1 t) (hs0_1 t) (ms0_2 t) (hs0_2 t) scM0_0 (Memref.isWhole_whole _) (V c main_arg1 : S32x7168.Idx → EReal) := by
  unfold outsAt0
  rw [iblk0_0]

include hU in
/-- The first result, entry by entry. -/
theorem outs0_1 (y : S192x7168.Idx) : (outsAt0 V c t).1 y = (uhsR U (y 0) (y 1) : EReal) :=
  eta2 (a := 192) (b := 7168) (outsAt0 V c t).1 (fun r k => (uhsR U r k : EReal)) (fun r k => by
    rw [outsAt0_1]
    exact out0_A_1_apply c (ms0_0 t) (hs0_0 t) (ms0_1 t) (hs0_1 t) (ms0_2 t) (hs0_2 t) scM0_0 (Memref.isWhole_whole _) (V c main_arg1) U hU r k) y

omit U in
/-- The second result of the first region, as a function of `u`. -/
theorem outsAt0_2 : (outsAt0 V c t).2 = out0_A_2 c (ms0_0 t) (hs0_0 t) (ms0_1 t) (hs0_1 t) (ms0_2 t) (hs0_2 t) scM0_0 (Memref.isWhole_whole _) (V c main_arg1 : S32x7168.Idx → EReal) := by
  unfold outsAt0
  rw [iblk0_0]

include hU in
/-- The second result, entry by entry. -/
theorem outs0_2 (y : S96x7168.Idx) : (outsAt0 V c t).2 y = (vsR U (y 0) (y 1) : EReal) :=
  eta2 (a := 96) (b := 7168) (outsAt0 V c t).2 (fun r k => (vsR U r k : EReal)) (fun r k => by
    rw [outsAt0_2]
    exact out0_A_2_apply c (ms0_0 t) (hs0_0 t) (ms0_1 t) (hs0_1 t) (ms0_2 t) (hs0_2 t) scM0_0 (Memref.isWhole_whole _) (V c main_arg1) U hU r k) y

/-- The first result's block is the whole array. -/
theorem emb0_1 (y : S192x7168.Idx) : ((win0_1.blk t).view.emb y : S192x7168.Idx) = y := by
  blk_ext [idx0_1]
/-- The second result's block is the whole array. -/
theorem emb0_2 (y : S96x7168.Idx) : ((win0_2.blk t).view.emb y : S96x7168.Idx) = y := by
  blk_ext [idx0_2]

include hU in
/-- The first array the first region leaves. -/
theorem arr0_1 (r : Fin 192) (k : Fin 7168) : (dat0 V c).arrAt 1 cfg0.N (ix2 r k) = (uhsR U r k : EReal) := by
  refine (dat0 V c).arrAt_forall_of_covers 1 (fun (i : S192x7168.Idx) (v : EReal) => v = (uhsR U (i 0) (i 1) : EReal)) (by decide +kernel) (fun t hf y => ?_) (ix2 r k)
  rw [after0_1]
  exact (outs0_1 V c t U hU y).trans (congrArg (fun z : S192x7168.Idx => (uhsR U (z 0) (z 1) : EReal)) (emb0_1 t y).symm)

include hU in
/-- The second array the first region leaves. -/
theorem arr0_2 (r : Fin 96) (k : Fin 7168) : (dat0 V c).arrAt 2 cfg0.N (ix2 r k) = (vsR U r k : EReal) := by
  refine (dat0 V c).arrAt_forall_of_covers 2 (fun (i : S96x7168.Idx) (v : EReal) => v = (vsR U (i 0) (i 1) : EReal)) (by decide +kernel) (fun t hf y => ?_) (ix2 r k)
  rw [after0_2]
  exact (outs0_2 V c t U hU y).trans (congrArg (fun z : S96x7168.Idx => (vsR U (z 0) (z 1) : EReal)) (emb0_2 t y).symm)
end Region0

section Region1
variable (V : (c : Dev nD) → (b : Ref sig .tc) → Buf (Elt Ideal) ((c : Thread nD τ).loc b)) (c : Dev nD) (t : Fin cfg1.N)

/-- The row of the array that a block's row is. -/
def rowOf (t : Fin cfg1.N) (r : Fin 256) : Fin 9216 := ⟨t.val * 256 + r.val, by have := t.isLt; change t.val < 36 at this; omega⟩

/-- The block of `x` a step reads. -/
theorem iblk1_0 (r : Fin 256) (k : Fin 7168) : iblk1 V c 0 t (ix2 r k) = V c main_v0 (ix2 (rowOf t r) k) := by
  have h := idx1_0 t
  blk_ext [iblk1, rowOf, h.1, h.2]
/-- The first factor a step reads. -/
theorem iblk1_1 : iblk1 V c 1 t = (V c main_v1_1 : S96x7168.Idx → EReal) := by
  funext y
  blk_ext [iblk1, idx1_1]
/-- The second factor a step reads. -/
theorem iblk1_2 : iblk1 V c 2 t = (V c main_v1_0 : S192x7168.Idx → EReal) := by
  funext y
  blk_ext [iblk1, idx1_2]
/-- The scales a step reads. -/
theorem iblk1_3 : iblk1 V c 3 t = (V c main_arg3 : S56x2560.Idx → EReal) := by
  funext y
  blk_ext [iblk1, idx1_3]
/-- The zeros a step reads. -/
theorem iblk1_4 : iblk1 V c 4 t = (V c main_arg4 : S56x2560.Idx → BitVec 8) := by
  funext y
  blk_ext [iblk1, idx1_4]

/-- The unpacked weights of the arrays as found. -/
theorem Wfull_eq : Wfull V c = wval (F := Ideal) (V c main_arg2) (V c main_arg4) (V c main_arg3) := by
  unfold Wfull
  rw [iblk1_3, iblk1_4]

variable (U : Fin 32 → Fin 7168 → ℝ) (X : Fin 9216 → Fin 7168 → ℝ) (hx : ∀ r k, V c main_v0 (ix2 r k) = (X r k : EReal))
  (hvs : ∀ p k, V c main_v1_1 (ix2 p k) = (vsR U p k : EReal)) (hu : ∀ p k, V c main_v1_0 (ix2 p k) = (uhsR U p k : EReal))

/-- Where a step's block of projected rows lies. -/
theorem emb1_6 (y : S256x7168.Idx) : ((win1_6.blk t).view.emb y : S9216x7168.Idx) = ix2 (rowOf t (y 0)) (y 1) := by
  have h := idx1_6 t
  blk_ext [rowOf, h.1, h.2]
/-- Where a step's block of the product lies. -/
theorem emb1_5 (y : S256x2560.Idx) : ((win1_5.blk t).view.emb y : S9216x2560.Idx) = ix2 (rowOf t (y 0)) (y 1) := by
  have h := idx1_5 t
  blk_ext [rowOf, h.1, h.2]

include hx in
/-- The block of `x`, over the reals. -/
theorem blk1_0 (r : Fin 256) (k : Fin 7168) : (iblk1 V c 0 t : Vec Ideal S256x7168 .bf16) (ix2 r k) = (X (rowOf t r) k : EReal) :=
  (iblk1_0 V c t r k).trans (hx _ _)
include hvs in
/-- The first factor, over the reals. -/
theorem blk1_1 (r : Fin 96) (k : Fin 7168) : (iblk1 V c 1 t : Vec Ideal S96x7168 .bf16) (ix2 r k) = (vsR U r k : EReal) := by
  rw [iblk1_1]; exact hvs r k
include hu in
/-- The second factor, over the reals. -/
theorem blk1_2 (r : Fin 192) (k : Fin 7168) : (iblk1 V c 2 t : Vec Ideal S192x7168 .bf16) (ix2 r k) = (uhsR U r k : EReal) := by
  rw [iblk1_2]; exact hu r k

/-- A step's projected rows are the pieces it stores. -/
theorem outsAt1_2 : (outsAt1 V c t).2 = View.canon (Val := Elt Ideal) (zbPieces (ms1_0 t) (hs1_0 t) (ms1_1 t) (hs1_1 t) (ms1_2 t) (hs1_2 t) (iblk1 V c 0 t) (iblk1 V c 1 t) (iblk1 V c 2 t)) := by
  unfold outsAt1
  dsimp only
  generalize zbPieces (F := Ideal) (ms1_0 t) (hs1_0 t) (ms1_1 t) (hs1_1 t) (ms1_2 t) (hs1_2 t) (iblk1 V c 0 t) (iblk1 V c 1 t) (iblk1 V c 2 t) = L
  exact View.read_writes_junk_eq_canon (Val := Elt Ideal) VO1_6 L
/-- A step's product is the pieces it stores. -/
theorem outsAt1_1 : (outsAt1 V c t).1 = View.canon (Val := Elt Ideal) (yPieces c (ms1_0 t) (hs1_0 t) (ms1_1 t) (hs1_1 t) (ms1_2 t) (hs1_2 t) (ms1_6 t) (iblk1 V c 0 t) (iblk1 V c 1 t) (iblk1 V c 2 t) (Wfull V c)) := by
  unfold outsAt1
  exact View.read_writes_junk_eq_canon (Val := Elt Ideal) VO1_5 _

include hx hvs hu in
/-- A step's projected rows, entry by entry. -/
theorem outs1_6 (y : S256x7168.Idx) : (outsAt1 V c t).2 y = (zbR U (X (rowOf t (y 0))) (y 1) : EReal) :=
  eta2 (a := 256) (b := 7168) (outsAt1 V c t).2 (fun r k => (zbR U (X (rowOf t r)) k : EReal)) (fun r k => by
    rw [outsAt1_2]
    exact zb_canon (ms1_0 t) (hs1_0 t) (ms1_1 t) (hs1_1 t) (ms1_2 t) (hs1_2 t) (iblk1 V c 0 t) (iblk1 V c 1 t) (iblk1 V c 2 t)
      U (fun r => X (rowOf t r)) (blk1_0 V c t X hx) (blk1_1 V c t U hvs) (blk1_2 V c t U hu) r k) y

include hx hvs hu in
/-- A step's product, at a row and a column. -/
theorem outs1_5a (r : Fin 256) (n : Fin 2560) : (outsAt1 V c t).1 (ix2 r n)
    = ∑ k : Fin 7168, (zbR U (X (rowOf t r)) k : EReal) * wval (F := Ideal) (V c main_arg2) (V c main_arg4) (V c main_arg3) (ix2 k n) := by
  rw [outsAt1_1, Wfull_eq]
  exact y_canon c (ms1_0 t) (hs1_0 t) (ms1_1 t) (hs1_1 t) (ms1_2 t) (hs1_2 t) (ms1_6 t) (iblk1 V c 0 t) (iblk1 V c 1 t) (iblk1 V c 2 t)
      U (fun r => X (rowOf t r)) (blk1_0 V c t X hx) (blk1_1 V c t U hvs) (blk1_2 V c t U hu) _ r n

include hx hvs hu in
/-- A step's product, entry by entry. -/
theorem outs1_5 (y : S256x2560.Idx) : (outsAt1 V c t).1 y
    = ∑ k : Fin 7168, (zbR U (X (rowOf t (y 0))) k : EReal) * wval (F := Ideal) (V c main_arg2) (V c main_arg4) (V c main_arg3) (ix2 k (y 1)) :=
  eta2 (a := 256) (b := 2560) (outsAt1 V c t).1 (fun r n => ∑ k : Fin 7168, (zbR U (X (rowOf t r)) k : EReal) * wval (F := Ideal) (V c main_arg2) (V c main_arg4) (V c main_arg3) (ix2 k n)) (outs1_5a V c t U X hx hvs hu) y

include hx hvs hu in
/-- The projected rows the second region leaves. -/
theorem arr1_6 (r : Fin 9216) (k : Fin 7168) : (dat1 V c).arrAt 6 cfg1.N (ix2 r k) = (zbR U (X r) k : EReal) := by
  refine (dat1 V c).arrAt_forall_of_covers 6 (fun (i : S9216x7168.Idx) (v : EReal) => v = (zbR U (X (i 0)) (i 1) : EReal)) (by decide +kernel) (fun t hf y => ?_) (ix2 r k)
  rw [after1_6]
  exact (outs1_6 V c t U X hx hvs hu y).trans (congrArg (fun z : S9216x7168.Idx => (zbR U (X (z 0)) (z 1) : EReal)) (emb1_6 t y).symm)

include hx hvs hu in
/-- The product the second region leaves. -/
theorem arr1_5 (r : Fin 9216) (n : Fin 2560) : (dat1 V c).arrAt 5 cfg1.N (ix2 r n)
    = ∑ k : Fin 7168, (zbR U (X r) k : EReal) * wval (F := Ideal) (V c main_arg2) (V c main_arg4) (V c main_arg3) (ix2 k n) := by
  refine (dat1 V c).arrAt_forall_of_covers 5 (fun (i : S9216x2560.Idx) (v : EReal) => v = ∑ k : Fin 7168, (zbR U (X (i 0)) k : EReal) * wval (F := Ideal) (V c main_arg2) (V c main_arg4) (V c main_arg3) (ix2 k (i 1)))
    (by decide +kernel) (fun t hf y => ?_) (ix2 r n)
  rw [after1_5]
  exact (outs1_5 V c t U X hx hvs hu y).trans (congrArg (fun z : S9216x2560.Idx => ∑ k : Fin 7168, (zbR U (X (z 0)) k : EReal) * wval (F := Ideal) (V c main_arg2) (V c main_arg4) (V c main_arg3) (ix2 k (z 1))) (emb1_5 t y).symm)
end Region1

section Results
variable (m : (ℓ : Loc nD τ sig) → Buf (Elt Ideal) ℓ) (ρ : Dev nD → PrngReg) (c : Dev nD)

/-- The row of the flattened array that a row of a batch is. -/
def flat (b : Fin 8) (i : Fin 1152) : Fin 9216 := ⟨b.val * 1152 + i.val, by omega⟩

/-- A batch's row among the flattened rows. -/
theorem cast_x (f : S9216x7168.Idx → EReal) (b : Fin 8) (i : Fin 1152) (k : Fin 7168) :
    shapeCast S8x1152x7168 f shapeCasts_S9216x7168_S8x1152x7168 (ix3 b i k) = f (ix2 (flat b i) k) := by
  pointwise []
  rfl
/-- The same, of the product. -/
theorem cast_y (f : S9216x2560.Idx → EReal) (b : Fin 8) (i : Fin 1152) (k : Fin 2560) :
    shapeCast S8x1152x2560 f shapeCasts_S9216x2560_S8x1152x2560 (ix3 b i k) = f (ix2 (flat b i) k) := by
  pointwise []
  rfl

/-- The rows of `x`, flattened on the host. -/
theorem W1_v0 : W1 m ρ c (Proc.devRef .tc main_v0) = shapeCast S9216x7168 (m ((c : Thread nD τ).loc main_arg0) : S8x1152x7168.Idx → EReal) shapeCasts_S8x1152x7168_S9216x7168 := rfl
/-- The projected rows, put back into batches on the host. -/
theorem W4_v4 : W4 m ρ c (Proc.devRef .tc main_v4) = shapeCast S8x1152x7168 (W3 m ρ c (Proc.devRef .tc main_v2_1) : S9216x7168.Idx → EReal) shapeCasts_S9216x7168_S8x1152x7168 := rfl
/-- The product, put back into batches on the host. -/
theorem W4_v3 : W4 m ρ c (Proc.devRef .tc main_v3) = shapeCast S8x1152x2560 (W3 m ρ c (Proc.devRef .tc main_v2_0) : S9216x2560.Idx → EReal) shapeCasts_S9216x2560_S8x1152x2560 := rfl

/-- A row of the flattened array is a row of a batch. -/
theorem flat_surj (R : Fin 9216) : flat ⟨R.val / 1152, by omega⟩ ⟨R.val % 1152, by omega⟩ = R :=
  Fin.ext (show R.val / 1152 * 1152 + R.val % 1152 = R.val by omega)

variable (U : Fin 32 → Fin 7168 → ℝ) (hU : ∀ r k, uhf (m ((c : Thread nD τ).loc main_arg1)) r k = (U r k : EReal))
  (X : Fin 8 → Fin 1152 → Fin 7168 → ℝ) (hX : ∀ b i k, (m ((c : Thread nD τ).loc main_arg0) : S8x1152x7168.Idx → EReal) (ix3 b i k) = (X b i k : EReal))

/-- The rows of `x`, flattened. -/
def Xf (X : Fin 8 → Fin 1152 → Fin 7168 → ℝ) (R : Fin 9216) : Fin 7168 → ℝ := X ⟨R.val / 1152, by omega⟩ ⟨R.val % 1152, by omega⟩

/-- A batch's row among the flattened real rows. -/
theorem Xf_flat (b : Fin 8) (i : Fin 1152) : Xf X (flat b i) = X b i := by
  show X (⟨(b.val * 1152 + i.val) / 1152, by omega⟩ : Fin 8) (⟨(b.val * 1152 + i.val) % 1152, by omega⟩ : Fin 1152) = X b i
  congr 1
  · exact (Fin.ext (a := (⟨(b.val * 1152 + i.val) / 1152, by omega⟩ : Fin 8)) (b := b) (show (b.val * 1152 + i.val) / 1152 = b.val by omega))
  · exact Fin.ext (a := (⟨(b.val * 1152 + i.val) % 1152, by omega⟩ : Fin 1152)) (b := i) (show (b.val * 1152 + i.val) % 1152 = i.val by omega)

include hX in
/-- The flattened rows the second region reads. -/
theorem V2_v0 (R : Fin 9216) (k : Fin 7168) : V2 m ρ c main_v0 (ix2 R k) = (Xf X R k : EReal) := by
  have e : V2 m ρ c main_v0 = W1 m ρ c (Proc.devRef .tc main_v0) := W2_of m ρ c main_v0 (by decide)
  rw [e, W1_v0]
  have := cast_x (shapeCast S9216x7168 (m ((c : Thread nD τ).loc main_arg0) : S8x1152x7168.Idx → EReal) shapeCasts_S8x1152x7168_S9216x7168) ⟨R.val / 1152, by omega⟩ ⟨R.val % 1152, by omega⟩ k
  rw [flat_surj] at this
  rw [← this, shapeCast_shapeCast]
  exact hX _ _ _

include hU in
/-- The first factor the second region reads. -/
theorem V2_vs (p : Fin 96) (k : Fin 7168) : V2 m ρ c main_v1_1 (ix2 p k) = (vsR U p k : EReal) := by
  have e : V2 m ρ c main_v1_1 = (dat0 (V1 m ρ) c).arrAt 2 cfg0.N := W2_arr m ρ c 2
  rw [e]
  exact arr0_2 (V1 m ρ) c U hU p k
include hU in
/-- The second factor the second region reads. -/
theorem V2_uhs (p : Fin 192) (k : Fin 7168) : V2 m ρ c main_v1_0 (ix2 p k) = (uhsR U p k : EReal) := by
  have e : V2 m ρ c main_v1_0 = (dat0 (V1 m ρ) c).arrAt 1 cfg0.N := W2_arr m ρ c 1
  rw [e]
  exact arr0_1 (V1 m ρ) c U hU p k

include hU hX in
/-- The corrected rows the kernel returns. -/
theorem kernel_zb (b : Fin 8) (i : Fin 1152) (k : Fin 7168) : W4 m ρ c (Proc.devRef .tc main_v4) (ix3 b i k) = (zbR U (X b i) k : EReal) := by
  rw [W4_v4]
  refine (cast_x _ b i k).trans ?_
  have e : W3 m ρ c (Proc.devRef .tc main_v2_1) = (dat1 (V2 m ρ) c).arrAt 6 cfg1.N := W3_arr m ρ c 6
  rw [e, ← Xf_flat X b i]
  exact arr1_6 (V2 m ρ) c U (Xf X) (V2_v0 m ρ c X hX) (V2_vs m ρ c U hU) (V2_uhs m ρ c U hU) (flat b i) k

include hU hX in
/-- The products the kernel returns. -/
theorem kernel_y (b : Fin 8) (i : Fin 1152) (n : Fin 2560) : W4 m ρ c (Proc.devRef .tc main_v3) (ix3 b i n)
    = ∑ k : Fin 7168, (zbR U (X b i) k : EReal) * wval (F := Ideal) (m ((c : Thread nD τ).loc main_arg2)) (m ((c : Thread nD τ).loc main_arg4)) (m ((c : Thread nD τ).loc main_arg3)) (ix2 k n) := by
  rw [W4_v3]
  refine (cast_y _ b i n).trans ?_
  have e : W3 m ρ c (Proc.devRef .tc main_v2_0) = (dat1 (V2 m ρ) c).arrAt 5 cfg1.N := W3_arr m ρ c 5
  rw [e, ← Xf_flat X b i]
  refine (arr1_5 (V2 m ρ) c U (Xf X) (V2_v0 m ρ c X hX) (V2_vs m ρ c U hU) (V2_uhs m ρ c U hU) (flat b i) n).trans ?_
  have e2 : V2 m ρ c main_arg2 = m ((c : Thread nD τ).loc main_arg2) := W2_args m ρ c main_arg2 (by decide)
  have e3 : V2 m ρ c main_arg3 = m ((c : Thread nD τ).loc main_arg3) := W2_args m ρ c main_arg3 (by decide)
  have e4 : V2 m ρ c main_arg4 = m ((c : Thread nD τ).loc main_arg4) := W2_args m ρ c main_arg4 (by decide)
  rw [e2, e3, e4]

end Results
end Cert.Proof.Hra
end
-- ==== Proof.RefOps.lean ====
/-
What the reference's host operations compute, as functions of what they read.
-/
module
public import proofs.«01_k».proof.Proof.RefFrame
@[expose] public section
set_option maxRecDepth 16384
noncomputable section
namespace Cert.Proof.Hra.Reference
open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value
variable {F : FTy → Type} [FloatOps F]

/-- The unit rows. -/
def uhT (u : FVec F S32x7168 .f32) : FVec F S32x7168 .f32 :=
  Host.divf u (broadcastInDim S32x7168 ![0, 1] bcast_S32x1_S32x7168_0_1 (Host.sqrt (broadcastInDim S32x1 ![0] bcast_S32_S32x1_0
    (Host.reduceAdd (mulf u u) (constant S_ .f32 0x00000000#32) reducesTo_S32x7168_S32_d1 h_S_))))

/-- The inner products of the unit rows. -/
def gramT (w : FVec F S32x7168 .f32) : FVec F S32x32 .f32 :=
  Host.dotGeneral dot_S32x7168_S7168x32_S32x32_1_0_0_1_n_n (some .fp32) w (transpose S7168x32 [1, 0] w transposes_S32x7168_S7168x32_1_0)

/-- The identity matrix. -/
def eyeT : FVec F S32x32 .f32 :=
  uitofp .f32 (cmpi .eq (addi (iotaInDim S32x32 32 0) (broadcastInDim S32x32 ![] bcast_S_S32x32 (constantI S_ 32 0#32))) (iotaInDim S32x32 32 1))

/-- The strictly upper part of a matrix. -/
def triuT (g : FVec F S32x32 .f32) : FVec F S32x32 .f32 :=
  select (cmpi .sge (addi (iotaInDim S32x32 32 0) (broadcastInDim S32x32 ![] bcast_S_S32x32 (constantI S_ 32 0#32))) (iotaInDim S32x32 32 1))
    (broadcastInDim S32x32 ![] bcast_S_S32x32 (constant S_ .f32 0x00000000#32)) g

/-- The triangular system's matrix. -/
def sysT (w : FVec F S32x7168 .f32) : FVec F S32x32 .f32 :=
  addf (mulf (broadcastInDim S32x32 ![] bcast_S_S32x32 (constant S_ .f32 0x3F000000#32)) eyeT) (triuT (gramT w))

/-- The rows after the projection. -/
def zbT (x : FVec F S8x1152x7168 .bf16) (w : FVec F S32x7168 .f32) (t : FVec F S32x32 .f32) : FVec F S8x1152x7168 .bf16 :=
  truncf .bf16 (subf (extf .f32 x bitsLt_bf16_f32) (Host.dotGeneral dot_S8x1152x32_S32x7168_S8x1152x7168_2_0_01_1_n_n (some .fp32)
    (Host.dotGeneral dot_S8x1152x32_S32x32_S8x1152x32_2_0_01_1_n_n (some .fp32)
      (Host.dotGeneral dot_S8x1152x7168_S32x7168_S8x1152x32_2_1_01_0_n_n (some .fp32) (extf .f32 x bitsLt_bf16_f32) w) t) w)) bitsLt_bf16_f32

/-- Codes less their group's zero, times their group's scale. -/
def deqT (k : IVec S3584x2560 32) (z : IVec S56x2560 8) (s : FVec F S56x2560 .bf16) : FVec F S3584x2560 .bf16 :=
  shapeCast S3584x2560 (mulf (subf (shapeCast S56x64x2560 (sitofp .bf16 k) shapeCasts_S3584x2560_S56x64x2560)
      (broadcastInDim S56x64x2560 ![0, 1, 2] bcast_S56x1x2560_S56x64x2560_0_1_2 (broadcastInDim S56x1x2560 ![0, 2] bcast_S56x2560_S56x1x2560_0_2 (sitofp .bf16 (extui 32 z natLt_8_32)))))
      (broadcastInDim S56x64x2560 ![0, 1, 2] bcast_S56x1x2560_S56x64x2560_0_1_2 (broadcastInDim S56x1x2560 ![0, 2] bcast_S56x2560_S56x1x2560_0_2 s)))
    shapeCasts_S56x64x2560_S3584x2560

/-- The low codes. -/
def loT (A : IVec S3584x2560 8) : IVec S3584x2560 32 :=
  andi (extui 32 A natLt_8_32) (broadcastInDim S3584x2560 ![] bcast_S_S3584x2560 (constantI S_ 32 15#32))

/-- The high codes. -/
def hiT (A : IVec S3584x2560 8) : IVec S3584x2560 32 :=
  Host.shrsi (extui 32 A natLt_8_32) (broadcastInDim S3584x2560 ![] bcast_S_S3584x2560 (constantI S_ 32 4#32))

/-- Two arrays of rows, interleaved. -/
def interT (a b : FVec F S3584x2560 .bf16) : FVec F S7168x2560 .bf16 :=
  shapeCast S7168x2560 (concatenate S3584x2x2560 1 [⟨S3584x1x2560, broadcastInDim S3584x1x2560 ![0, 2] bcast_S3584x2560_S3584x1x2560_0_2 a⟩,
    ⟨S3584x1x2560, broadcastInDim S3584x1x2560 ![0, 2] bcast_S3584x2560_S3584x1x2560_0_2 b⟩] concatenates_S3584x1x2560_S3584x1x2560_S3584x2x2560_d1)
    shapeCasts_S3584x2x2560_S7168x2560

/-- The unpacked weights. -/
def wT (A : IVec S3584x2560 8) (z : IVec S56x2560 8) (s : FVec F S56x2560 .bf16) : FVec F S7168x2560 .bf16 :=
  interT (deqT (loT A) z s) (deqT (hiT A) z s)

/-- The product with the unpacked weights. -/
def yT (zb : FVec F S8x1152x7168 .bf16) (w : FVec F S7168x2560 .bf16) : FVec F S8x1152x2560 .bf16 :=
  truncf .bf16 (Host.dotGeneral dot_S8x1152x7168_S7168x2560_S8x1152x2560_2_0_01_1_n_n none zb w) bitsLt_bf16_f32

variable (V : Valuation τ sig (Elt F))

/-- The unit rows. -/
theorem ops0_v5 : after hostOps0 V (Proc.devRef .tc main_v5) = uhT (F := F) (V (Proc.devRef .tc main_arg1)) := by
  simp only [hostOps0]
  after_results_entrywise [uhT, cast_eq]
/-- Their inner products. -/
theorem ops0_v7 : after hostOps0 V (Proc.devRef .tc main_v7) = gramT (F := F) (uhT (V (Proc.devRef .tc main_arg1))) := by
  simp only [hostOps0]
  after_results_entrywise [uhT, gramT, cast_eq]
/-- The identity matrix. -/
theorem ops0_v13 : after hostOps0 V (Proc.devRef .tc main_v13) = eyeT (F := F) := by
  simp only [hostOps0]
  after_results_entrywise [eyeT, cast_eq]
/-- Half of it. -/
theorem ops0_v15 : after hostOps0 V (Proc.devRef .tc main_v15) = (mulf (broadcastInDim S32x32 ![] bcast_S_S32x32 (constant S_ .f32 0x3F000000#32)) eyeT : FVec F S32x32 .f32) := by
  simp only [hostOps0]
  after_results_entrywise [eyeT, cast_eq]
/-- The strictly upper part. -/
theorem ops1_v16 : after hostOps0_1 V (Proc.devRef .tc main_v16) = triuT (F := F) (V (Proc.devRef .tc main_v7)) := by
  simp only [hostOps0_1]
  after_results_entrywise [triuT, cast_eq]
/-- The system's matrix enters the loop. -/
theorem ops2_0 : after hostOps0_2 V (Proc.devRef .tc main_v19_0) = (addf (V (Proc.devRef .tc main_v15)) (V (Proc.devRef .tc main_v16)) : FVec F S32x32 .f32) := by
  simp only [hostOps0_2]
  after_results_entrywise [cast_eq, id]
/-- The identity matrix enters the loop. -/
theorem ops2_1 : after hostOps0_2 V (Proc.devRef .tc main_v19_1) = V (Proc.devRef .tc main_v13) := by
  simp only [hostOps0_2]
  after_results_entrywise [cast_eq, id]
/-- The trip number enters the loop at zero. -/
theorem ops2_3 : after hostOps0_2 V (Proc.devRef .tc main_v19_3) = constantI S_ 32 0#32 := by
  simp only [hostOps0_2]
  after_results_entrywise [cast_eq, id]
/-- The solution enters the loop at zero. -/
theorem ops2_4 : after hostOps0_2 V (Proc.devRef .tc main_v19_4) = (broadcastInDim S32x32 ![] bcast_S_S32x32 (constant S_ .f32 0x00000000#32) : FVec F S32x32 .f32) := by
  simp only [hostOps0_2]
  after_results_entrywise [cast_eq, id]

/-- The second result. -/
theorem post_v25 : after hostOps0_3 V (Proc.devRef .tc main_v25)
    = zbT (F := F) (V (Proc.devRef .tc main_arg0)) (V (Proc.devRef .tc main_v5)) (V (Proc.devRef .tc main_v19_4)) := by
  simp only [hostOps0_3]
  after_results_entrywise [zbT, cast_eq]
/-- The first result. -/
theorem post_v58 : after hostOps0_3 V (Proc.devRef .tc main_v58)
    = yT (F := F) (zbT (V (Proc.devRef .tc main_arg0)) (V (Proc.devRef .tc main_v5)) (V (Proc.devRef .tc main_v19_4)))
        (wT (V (Proc.devRef .tc main_arg2)) (V (Proc.devRef .tc main_arg4)) (V (Proc.devRef .tc main_arg3))) := by
  simp only [hostOps0_3]
  after_results_entrywise [yT, wT, interT, deqT, loT, hiT, zbT, cast_eq]

end Cert.Proof.Hra.Reference
end
-- ==== Proof.RefLoop.lean ====
/-
The reference's back-substitution loop, over the ideal numbers.

One trip solves one row of the triangular system, counting from the last row up; after `k` trips the carried matrix is
`solve s k`.
-/
module
public import proofs.«01_k».proof.Proof.RefFrame
public import proofs.«01_k».proof.Proof.BackSub
public import proofs.«01_k».proof.Proof.PrepIdeal
public import Idealize.ShloMosaic.Lib.DynamicIndex
@[expose] public section
set_option maxRecDepth 16384
noncomputable section
namespace Cert.Proof.Hra.Reference
open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value

/-- One row of a square matrix, sliced out at a start that fits. -/
theorem row_slice (X : S32x32.Idx → EReal) (st : Fin 2 → Int) (h : S32x32.Slices (fun _ => 0) S1x32) (i : Fin 32) (h0 : st 0 = i.val) (h1 : st 1 = 0)
    (r : Fin 1) (c : Fin 32) : Host.dynamicSlice S1x32 X st h (ix2 r c) = X (ix2 i c) := by
  have hi := i.isLt
  rw [Host.dynamicSlice_eq_extractStridedSlice S1x32 X st ![i.val, 0] h ⟨rfl, by intro a; fin_cases a <;> simp <;> omega⟩
    (by intro a; fin_cases a <;> simp [h0, h1])]
  obtain rfl : r = 0 := Subsingleton.elim _ _
  unfold extractStridedSlice
  congr 1
  funext a
  fin_cases a <;> apply Fin.ext <;> simp [Shape.Idx.norm, ix2]

/-- One entry of a square matrix, sliced out at a start that fits. -/
theorem entry_slice (X : S32x32.Idx → EReal) (st : Fin 2 → Int) (h : S32x32.Slices (fun _ => 0) S1x1) (i : Fin 32) (h0 : st 0 = i.val) (h1 : st 1 = i.val)
    (r c : Fin 1) : Host.dynamicSlice S1x1 X st h (ix2 r c) = X (ix2 i i) := by
  have hi := i.isLt
  rw [Host.dynamicSlice_eq_extractStridedSlice S1x1 X st ![i.val, i.val] h ⟨rfl, by intro a; fin_cases a <;> simp <;> omega⟩
    (by intro a; fin_cases a <;> simp [h0, h1])]
  obtain rfl : r = 0 := Subsingleton.elim _ _
  obtain rfl : c = 0 := Subsingleton.elim _ _
  unfold extractStridedSlice
  congr 1
  funext a
  fin_cases a <;> apply Fin.ext <;> simp [Shape.Idx.norm, ix2]

/-- A square matrix with one row written over at a start that fits. -/
theorem row_update (X : S32x32.Idx → EReal) (Y : S1x32.Idx → EReal) (st : Fin 2 → Int) (h : S32x32.Slices (fun _ => 0) S1x32) (i : Fin 32)
    (h0 : st 0 = i.val) (h1 : st 1 = 0) (r c : Fin 32) :
    Host.dynamicUpdateSlice X Y st h (ix2 r c) = if r = i then Y (ix2 0 c) else X (ix2 r c) := by
  have hi := i.isLt
  have hr := r.isLt
  have hc := c.isLt
  have k0 : Host.clampedStart S32x32 S1x32 h.1 st 0 = i.val := Host.clampedStart_of_le h.1 st 0 i.val h0 (by show i.val + 1 ≤ 32; omega)
  have k1 : Host.clampedStart S32x32 S1x32 h.1 st 1 = 0 := Host.clampedStart_of_le h.1 st 1 0 h1 (by show 0 + 32 ≤ 32; omega)
  rw [Host.dynamicUpdateSlice_apply]
  by_cases e : r = i
  · subst e
    rw [if_pos rfl, dif_pos (by
      intro a
      fin_cases a
      · exact ⟨le_of_eq k0, by show r.val < _; erw [k0]; exact Nat.lt_succ_self _⟩
      · exact ⟨by erw [k1]; exact Nat.zero_le _, by show c.val < _; erw [k1]; simp⟩)]
    congr 1
    funext a
    fin_cases a
    · apply Fin.ext
      show r.val - Host.clampedStart S32x32 S1x32 h.1 st 0 = 0
      rw [k0]; omega
    · apply Fin.ext
      show c.val - Host.clampedStart S32x32 S1x32 h.1 st 1 = c.val
      rw [k1]; omega
  · rw [if_neg e, dif_neg]
    intro hh
    have := hh 0
    have a1 : Host.clampedStart S32x32 S1x32 h.1 st 0 ≤ r.val := this.1
    have a2 : r.val < Host.clampedStart S32x32 S1x32 h.1 st 0 + 1 := this.2
    rw [k0] at a1 a2
    exact e (Fin.ext (by omega))

/-- The row number of the `k`-th trip, as the reference computes it. -/
theorem row_word (k : ℕ) (hk : k < 32) : (31#32 : BitVec 32) - BitVec.ofNat 32 k = BitVec.ofNat 32 (31 - k) := by
  apply BitVec.eq_of_toNat_eq
  simp only [BitVec.toNat_sub, BitVec.toNat_ofNat]
  omega

/-- The row start the reference slices at, of the row number. -/
abbrev rowStart (n : IVec S_ 32) : Fin 2 → Int := fun k => (((![select (cmpi .slt n (constantI S_ 32 0#32)) (addi (id n) (constantI S_ 32 32#32)) n,
  constantI S_ 32 0#32] : Fin 2 → IVec S_ 32)) k (Shape.Idx.first h_S_)).toInt

/-- The diagonal start the reference slices at, of the row number. -/
abbrev diagStart (n : IVec S_ 32) : Fin 2 → Int := fun k => (((![select (cmpi .slt n (constantI S_ 32 0#32)) (addi (id n) (constantI S_ 32 32#32)) n,
  select (cmpi .slt n (constantI S_ 32 0#32)) (addi (id n) (constantI S_ 32 32#32)) n] : Fin 2 → IVec S_ 32)) k (Shape.Idx.first h_S_)).toInt

/-- The row one trip writes. -/
def rowOfTrip (S E T : FVec Ideal S32x32 .f32) (n : IVec S_ 32) : FVec Ideal S1x32 .f32 :=
  Host.divf (subf (Host.dynamicSlice S1x32 E (rowStart n) sliceFits_S32x32_S1x32)
      (Host.dotGeneral dot_S1x32_S32x32_S1x32_1_0_0_1_n_n (some .fp32) (Host.dynamicSlice S1x32 S (rowStart n) sliceFits_S32x32_S1x32) T))
    (broadcastInDim S1x32 ![0, 1] bcast_S1x1_S1x32_0_1 (Host.dynamicSlice S1x1 S (diagStart n) sliceFits_S32x32_S1x1))

/-- The index the reference slices at: the row number, which is not negative. -/
theorem idx_word (n : IVec S_ 32) (k : ℕ) (hk : k < 32) (hn : ∀ j, n j = BitVec.ofNat 32 (31 - k)) (j : S_.Idx) :
    (select (cmpi .slt n (constantI S_ 32 0#32)) (addi (id n) (constantI S_ 32 32#32)) n j).toInt = ((rowAt k).val : Int) := by
  have e2 : (n j).toInt = ((31 - k : ℕ) : Int) := by
    rw [hn j, toInt_ofNat_of_lt (by omega)]
  rw [select_slt_zero_of_nonneg (w := 32) n _ _ j (by rw [e2]; omega), e2]
  rfl

/-- Where the diagonal block is `d`, the row less a product, over it. -/
theorem row_pointwise (e r : FVec Ideal S1x32 .f32) (T : FVec Ideal S32x32 .f32) (d : FVec Ideal S1x1 .f32) (c : Fin 32) :
    Host.divf (subf e (Host.dotGeneral dot_S1x32_S32x32_S1x32_1_0_0_1_n_n (some .fp32) r T)) (broadcastInDim S1x32 ![0, 1] bcast_S1x1_S1x32_0_1 d) (ix2 0 c)
      = Ideal.div (e (ix2 0 c) - ∑ j : Fin 32, r (ix2 0 j) * T (ix2 j c)) (d (ix2 0 0)) := by
  pointwise []

/-- The row one trip writes is the solver's. -/
theorem rowOfTrip_apply (S E T : FVec Ideal S32x32 .f32) (n : IVec S_ 32) (k : ℕ) (hk : k < 32) (hn : ∀ j, n j = BitVec.ofNat 32 (31 - k))
    (hE : ∀ r c : Fin 32, E (ix2 r c) = if r = c then 1 else 0) (c : Fin 32) :
    rowOfTrip S E T n (ix2 0 c)
      = Ideal.div ((if rowAt k = c then 1 else 0) - ∑ j, S (ix2 (rowAt k) j) * T (ix2 j c)) (S (ix2 (rowAt k) (rowAt k))) := by
  unfold rowOfTrip
  rw [row_pointwise, row_slice E _ _ (rowAt k) (idx_word n k hk hn _) rfl, hE,
    entry_slice S _ _ (rowAt k) (idx_word n k hk hn _) (idx_word n k hk hn _)]
  simp only [row_slice S (rowStart n) sliceFits_S32x32_S1x32 (rowAt k) (idx_word n k hk hn _) rfl]

variable (V : Valuation τ sig (Elt Ideal))

/-- The system's matrix, the identity, the solution so far and the trip number, among the carried buffers. -/
abbrev vS : FVec Ideal S32x32 .f32 := V (Proc.devRef .tc main_v19_0)
/-- The identity matrix among the carried buffers. -/
abbrev vE : FVec Ideal S32x32 .f32 := V (Proc.devRef .tc main_v19_1)
/-- The trip number among the carried buffers. -/
abbrev vK : IVec S_ 32 := V (Proc.devRef .tc main_v19_3)
/-- The solution so far among the carried buffers. -/
abbrev vT : FVec Ideal S32x32 .f32 := V (Proc.devRef .tc main_v19_4)

/-- One trip writes one row. -/
theorem step_eq : (step_main_v19_4 V : FVec Ideal S32x32 .f32)
    = Host.dynamicUpdateSlice (vT V) (rowOfTrip (vS V) (vE V) (vT V) (res_main_while0b_v60 V)) (rowStart (res_main_while0b_v60 V)) updateFits_S32x32_S1x32 := by
  sl_kernel_rfl

/-- One trip is one step of the solver. -/
theorem step_apply (k : ℕ) (hk : k < 32) (hv : ∀ j, vK V j = BitVec.ofNat 32 k)
    (hE : ∀ r c : Fin 32, vE V (ix2 r c) = if r = c then 1 else 0) (r c : Fin 32) :
    (step_main_v19_4 V : FVec Ideal S32x32 .f32) (ix2 r c)
      = solveStep (fun i j => vS V (ix2 i j)) (rowAt k) (fun i j => vT V (ix2 i j)) r c := by
  have hn : ∀ j, (res_main_while0b_v60 V : IVec S_ 32) j = BitVec.ofNat 32 (31 - k) := fun j => by
    unfold res_main_while0b_v60
    show (31#32 : BitVec 32) - vK V j = _
    rw [hv j, row_word k hk]
  rw [step_eq]
  generalize (res_main_while0b_v60 V : IVec S_ 32) = n at hn ⊢
  generalize vS V = S at *
  generalize vT V = T at *
  generalize vE V = E at *
  rw [row_update T _ _ _ (rowAt k) (idx_word n k hk hn _) rfl r c, rowOfTrip_apply S E T n k hk hn hE]
  rfl

/-- After `k` trips: the matrix and the identity as they were, the trip number `k`, and the solver's `k` steps. -/
theorem steps (hv : ∀ j, vK V j = 0#32) (hE : ∀ r c : Fin 32, vE V (ix2 r c) = if r = c then 1 else 0) (hT : ∀ r c : Fin 32, vT V (ix2 r c) = 0) :
    ∀ k, k ≤ 32 → vS (STEP^[k] V) = vS V ∧ vE (STEP^[k] V) = vE V ∧ (∀ j, vK (STEP^[k] V) j = BitVec.ofNat 32 k)
      ∧ ∀ r c, vT (STEP^[k] V) (ix2 r c) = solve (fun i j => vS V (ix2 i j)) k r c
  | 0, _ => ⟨rfl, rfl, hv, hT⟩
  | k + 1, h => by
    obtain ⟨i1, i2, i3, i4⟩ := steps hv hE hT k (by omega)
    rw [Function.iterate_succ_apply']
    generalize STEP^[k] V = W at *
    refine ⟨(STEP_main_v19_0 W).trans i1, (STEP_main_v19_1 W).trans i2, fun j => ?_, fun r c => ?_⟩
    · refine (congrFun (STEP_main_v19_3 W) j).trans ?_
      show vK W j + 1#32 = _
      rw [i3 j]
      exact (BitVec.ofNat_add k 1).symm
    · refine (congrFun (STEP_main_v19_4 W) _).trans ((step_apply W k (by omega) i3 (fun r c => by rw [i2]; exact hE r c) r c).trans ?_)
      rw [i1]
      simp only [i4]
      rfl

end Cert.Proof.Hra.Reference
end
-- ==== Proof.RefIdeal.lean ====
/-
The reference's arrays over the ideal numbers, entry by entry.
-/
module
public import proofs.«01_k».proof.Proof.RefOps
public import proofs.«01_k».proof.Proof.RefLoop
public import proofs.«01_k».proof.Proof.MainIdeal
@[expose] public section
set_option maxRecDepth 16384
noncomputable section
namespace Cert.Proof.Hra.Reference
open Idealize.ShloMosaic Idealize.ShloMosaic.TcCoe Idealize.ShloMosaic.StableHlo Idealize.SL.Sem Idealize.ShloMosaic.Tactic
open Cert.ReferenceIdeal Cert.ReferenceIdeal.Gen Cert.ReferenceIdeal.Value

/-- The unit rows, entry by entry. -/
theorem uhT_apply (u : FVec Ideal S32x7168 .f32) (r : Fin 32) (k : Fin 7168) : uhT u (ix2 r k) = uhf u r k := by
  unfold uhT uhf
  pointwise []

/-- The inner products, entry by entry. -/
theorem gramT_apply (w : FVec Ideal S32x7168 .f32) (i j : Fin 32) : gramT w (ix2 i j) = ∑ k : Fin 7168, w (ix2 i k) * w (ix2 j k) := by
  unfold gramT
  pointwise []

/-- The identity matrix, entry by entry. -/
theorem eyeT_apply (i j : Fin 32) : eyeT (F := Ideal) (ix2 i j) = if i = j then 1 else 0 := by
  unfold eyeT
  pointwise []
  show (((IntOp.cmpi CmpIPredicate.eq (IntOp.addi (BitVec.ofNat 32 i.val) 0#32) (BitVec.ofNat 32 j.val)).toNat : ℝ) : EReal) = _
  simp only [IntOp.cmpi, IntOp.addi, BitVec.add_zero]
  by_cases h : i = j
  · subst h; simp
  · have : BitVec.ofNat 32 i.val ≠ BitVec.ofNat 32 j.val := fun e => h (Fin.ext ((ofNat_eq_iff _ _ i.2 j.2).mp e))
    have e : (BitVec.ofNat 32 i.val == BitVec.ofNat 32 j.val) = false := by simpa using this
    simp only [e]
    simp [h]

/-- The strictly upper part, entry by entry. -/
theorem triuT_apply (g : FVec Ideal S32x32 .f32) (i j : Fin 32) : triuT g (ix2 i j) = if i < j then g (ix2 i j) else 0 := by
  unfold triuT
  pointwise []
  simp only [Scalar.select, IntOp.cmpi, IntOp.addi, BitVec.add_zero]
  have e : (BitVec.ofNat 32 j.val).sle (BitVec.ofNat 32 i.val) = !decide (i.val < j.val) := by
    rw [← slt_small j.val i.val j.2 i.2, BitVec.sle_eq_not_slt]
  rw [e]
  by_cases h : i.val < j.val
  · simp [h, show i < j from h]
  · simp [h, show ¬ i < j from h]

/-- The word of the number one half. -/
theorem half_f32 : Ideal.ofBits FTy.f32 1056964608#32 = ((1 / 2 : ℝ) : EReal) := by
  have : ((8388608 * (2 ^ 24)⁻¹ : ℝ) : EReal) = ((1 / 2 : ℝ) : EReal) := by
    rw [show (8388608 * (2 ^ 24)⁻¹ : ℝ) = 1 / 2 by norm_num]
  simp [Ideal.ofBits, Ideal.ieee]
  rw [← EReal.coe_mul]
  simpa using this

/-- Half the identity matrix, entry by entry. -/
theorem half_eye (i j : Fin 32) : (mulf (broadcastInDim S32x32 ![] bcast_S_S32x32 (constant S_ .f32 0x3F000000#32)) eyeT : FVec Ideal S32x32 .f32) (ix2 i j)
    = (((if i = j then 1 / 2 else 0 : ℝ)) : EReal) := by
  have e := eyeT_apply i j
  generalize (eyeT : FVec Ideal S32x32 .f32) = E at *
  pointwise []
  rw [half_f32, e]
  split_ifs
  · exact mul_one _
  · exact mul_zero _

/-- The projected rows, entry by entry. -/
theorem zbT_apply (x : FVec Ideal S8x1152x7168 .bf16) (w : FVec Ideal S32x7168 .f32) (t : FVec Ideal S32x32 .f32) (b : Fin 8) (i : Fin 1152) (d : Fin 7168) :
    zbT x w t (ix3 b i d) = x (ix3 b i d) - ∑ r : Fin 32, (∑ j : Fin 32, (∑ k : Fin 7168, x (ix3 b i k) * w (ix2 j k)) * t (ix2 j r)) * w (ix2 r d) := by
  unfold zbT
  pointwise []

/-- The product, entry by entry. -/
theorem yT_apply (zb : FVec Ideal S8x1152x7168 .bf16) (w : FVec Ideal S7168x2560 .bf16) (b : Fin 8) (i : Fin 1152) (n : Fin 2560) :
    yT zb w (ix3 b i n) = ∑ d : Fin 7168, zb (ix3 b i d) * w (ix2 d n) := by
  unfold yT
  pointwise []

/-- The low code of a byte. -/
theorem loT_apply (A : IVec S3584x2560 8) (r : Fin 3584) (n : Fin 2560) : loT A (ix2 r n) = codeOf (A (ix2 r n)) 0 := by
  unfold loT codeOf
  pointwise []

/-- The high code of a byte. -/
theorem hiT_apply (A : IVec S3584x2560 8) (r : Fin 3584) (n : Fin 2560) : hiT A (ix2 r n) = codeOf (A (ix2 r n)) 1 := by
  unfold hiT codeOf
  pointwise []
  unfold IntOp.shrsi
  rw [if_pos (by decide), if_pos (by decide)]

/-- A dequantized code. -/
theorem deqT_apply (k : IVec S3584x2560 32) (z : IVec S56x2560 8) (s : FVec Ideal S56x2560 .bf16) (r : Fin 3584) (n : Fin 2560) :
    deqT k z s (ix2 r n) = ((((k (ix2 r n)).toInt : ℝ) : EReal) - (((z (ix2 ⟨r.val / 64, by omega⟩ n)).toNat : ℝ) : EReal)) * s (ix2 ⟨r.val / 64, by omega⟩ n) := by
  unfold deqT
  pointwise []
  have e : ∀ b : BitVec 8, ((b.setWidth 32).toInt : ℝ) = (b.toNat : ℝ) := fun b => by
    have hb := b.isLt
    have h2 : (b.setWidth 32).toNat = b.toNat := by rw [BitVec.toNat_setWidth]; omega
    rw [BitVec.toInt_eq_toNat_cond, h2, if_pos (by omega)]
    rfl
  rw [← e]
  rfl

/-- Interleaved rows, by the row number's parity. -/
theorem interT_apply (a b : FVec Ideal S3584x2560 .bf16) (d : Fin 7168) (n : Fin 2560) :
    interT a b (ix2 d n) = if d.val % 2 < 1 then a (ix2 ⟨d.val / 2, by omega⟩ n) else b (ix2 ⟨d.val / 2, by omega⟩ n) := by
  unfold interT
  pointwise []
  split_ifs <;> rfl

/-- The reference's unpacked weights are the kernel's. -/
theorem wT_apply (A : IVec S3584x2560 8) (z : IVec S56x2560 8) (s : FVec Ideal S56x2560 .bf16) (d : Fin 7168) (n : Fin 2560) :
    wT A z s (ix2 d n) = wval (F := Ideal) A z s (ix2 d n) := by
  unfold wT
  rw [interT_apply, deqT_apply, deqT_apply, loT_apply, hiT_apply]
  unfold wval wOf
  have hd : d.val / 2 / 64 = d.val / 128 := by omega
  simp only [hd]
  show _ = ((((codeOf (A (ix2 ⟨d.val / 2, _⟩ n)) (d.val % 2)).toInt : ℝ) : EReal) - (((z (ix2 ⟨d.val / 128, _⟩ n)).toNat : ℝ) : EReal)) * s (ix2 ⟨d.val / 128, _⟩ n)
  rcases Nat.mod_two_eq_zero_or_one d.val with h | h
  · rw [if_pos (by omega), h]
  · rw [if_neg (by omega), h]

section Values
variable (m : (ℓ : Loc nD τ sig) → Buf (Elt Ideal) ℓ) (c : Dev nD)

/-- The unit rows at the loop's entry. -/
theorem entry_v5 : entryContents preI m c (Proc.devRef .tc main_v5) = uhT (F := Ideal) (m ((c.tc : Thread nD τ).loc main_arg1)) := by
  simp only [entryContents, preI, afterL_cons, afterL_nil]
  rw [after_of_writes_sub _ _ hostOps0_2_writes (by decide), after_of_writes_sub _ _ hostOps0_1_writes (by decide), ops0_v5]
/-- The system's matrix at the loop's entry. -/
theorem entry_S : entryContents preI m c (Proc.devRef .tc main_v19_0) = sysT (F := Ideal) (uhT (m ((c.tc : Thread nD τ).loc main_arg1))) := by
  simp only [entryContents, preI, afterL_cons, afterL_nil]
  rw [ops2_0, after_of_writes_sub _ _ hostOps0_1_writes (by decide), ops1_v16, ops0_v15, ops0_v7]
  rfl
/-- The identity matrix at the loop's entry. -/
theorem entry_E : entryContents preI m c (Proc.devRef .tc main_v19_1) = eyeT (F := Ideal) := by
  simp only [entryContents, preI, afterL_cons, afterL_nil]
  rw [ops2_1, after_of_writes_sub _ _ hostOps0_1_writes (by decide), ops0_v13]
/-- The trip number at the loop's entry. -/
theorem entry_K : entryContents preI m c (Proc.devRef .tc main_v19_3) = constantI S_ 32 0#32 := by
  simp only [entryContents, preI, afterL_cons, afterL_nil]
  rw [ops2_3]
/-- The solution at the loop's entry. -/
theorem entry_T : entryContents preI m c (Proc.devRef .tc main_v19_4) = (broadcastInDim S32x32 ![] bcast_S_S32x32 (constant S_ .f32 0x00000000#32) : FVec Ideal S32x32 .f32) := by
  simp only [entryContents, preI, afterL_cons, afterL_nil]
  rw [ops2_4]

/-- The solution starts at zero. -/
theorem zero_T (r k : Fin 32) : (broadcastInDim S32x32 ![] bcast_S_S32x32 (constant S_ .f32 0x00000000#32) : FVec Ideal S32x32 .f32) (ix2 r k) = 0 := by
  pointwise []

variable (U : Fin 32 → Fin 7168 → ℝ) (hU : ∀ r k, uhf (m ((c.tc : Thread nD τ).loc main_arg1)) r k = (U r k : EReal))

include hU in
/-- The system's matrix, over the reals. -/
theorem sys_apply (i j : Fin 32) : sysT (F := Ideal) (uhT (m ((c.tc : Thread nD τ).loc main_arg1))) (ix2 i j)
    = (((if i = j then 1 / 2 else 0) + alphaR U i j : ℝ) : EReal) := by
  unfold sysT
  refine (congrArg₂ (fun a b : EReal => a + b) (half_eye i j) (triuT_apply _ i j)).trans ?_
  rw [EReal.coe_add, gramT_apply]
  congr 1
  unfold alphaR
  simp only [uhT_apply, hU]
  by_cases h : i < j
  · rw [if_pos h, if_pos (show i.val < j.val from h), coe_sum]
    rfl
  · rw [if_neg h, if_neg (show ¬ i.val < j.val from h)]
    rfl

/-- Before the operations after the loop the carried matrix is the loop's. -/
theorem mid_T : mid m c (Proc.devRef .tc main_v19_4) = (STEP^[32] (entryContents preI m c)) (Proc.devRef .tc main_v19_4) :=
  (cond_keeps (atK m 32 c) main_v19_4 (by decide)).trans (atK_agree m c 32 main_v19_4 (by decide))

include hU in
/-- The reference's triangular matrix is the kernel's. -/
theorem mid_T_apply (r k : Fin 32) : (mid m c (Proc.devRef .tc main_v19_4) : FVec Ideal S32x32 .f32) (ix2 r k) = (TR U r k : EReal) := by
  rw [mid_T]
  have h := (steps (entryContents preI m c) (fun j => by rw [vK, entry_K]; rfl) (fun r k => by rw [vE, entry_E]; exact eyeT_apply r k)
    (fun r k => by rw [vT, entry_T]; exact zero_T r k) 32 le_rfl).2.2.2 r k
  refine h.trans ?_
  have hs := solve_eq (alphaR U) (fun i j hij => by unfold alphaR; rw [if_neg (by omega)])
    (fun i j => vS (entryContents preI m c) (ix2 i j)) (fun i j => by rw [vS, entry_S]; exact sys_apply m c U hU i j) 32 le_rfl
  rw [hs]
  rfl

/-- The end is what the operations after the loop make of the loop's end. -/
theorem fin_eq (b : DevRef τ sig) : fin m c b = after hostOps0_3 (mid m c) b := by
  show afterL postI (mid m c) _ = _
  simp only [postI, afterL_cons, afterL_nil]

/-- An argument is at its launch contents after the loop. -/
theorem mid_arg (r : Ref sig .tc) (h1 : r ∉ preW) (h2 : r ∉ loopW) : mid m c (Proc.devRef .tc r) = m ((c.tc : Thread nD τ).loc r) :=
  (mid_keep m c r h2).trans (entry_keep m c r h1)

/-- The order of two finite sums, and the triangular factor's place, do not matter over the reals. -/
theorem q_swap (X : Fin 7168 → ℝ) (r : Fin 32) : ∑ j, (∑ k, X k * U j k) * TR U j r = qR U X r := by
  unfold qR
  simp only [Finset.sum_mul]
  rw [Finset.sum_comm]
  exact Finset.sum_congr rfl fun k _ => Finset.sum_congr rfl fun j _ => by ring

variable (X : Fin 8 → Fin 1152 → Fin 7168 → ℝ) (hX : ∀ b i k, (m ((c.tc : Thread nD τ).loc main_arg0) : FVec Ideal S8x1152x7168 .bf16) (ix3 b i k) = (X b i k : EReal))

include hU hX in
/-- The projected rows, as the reference returns them. -/
theorem zb_mid (b : Fin 8) (i : Fin 1152) (d : Fin 7168) :
    zbT (F := Ideal) (mid m c (Proc.devRef .tc main_arg0)) (mid m c (Proc.devRef .tc main_v5)) (mid m c (Proc.devRef .tc main_v19_4)) (ix3 b i d)
      = (zbR U (X b i) d : EReal) := by
  rw [zbT_apply, mid_arg m c main_arg0 (by decide) (by decide), mid_keep m c main_v5 (by decide), entry_v5]
  simp only [mid_T_apply m c U hU, uhT_apply, hU, hX, ← EReal.coe_mul, ← coe_sum, q_swap, ← EReal.coe_sub]
  rfl

include hU hX in
/-- The projected rows the reference returns. -/
theorem fin_zb (b : Fin 8) (i : Fin 1152) (d : Fin 7168) : (fin m c (Proc.devRef .tc main_v25) : FVec Ideal S8x1152x7168 .bf16) (ix3 b i d) = (zbR U (X b i) d : EReal) := by
  rw [fin_eq, post_v25]
  exact zb_mid m c U hU X hX b i d

include hU hX in
/-- The product the reference returns. -/
theorem fin_y (b : Fin 8) (i : Fin 1152) (n : Fin 2560) : (fin m c (Proc.devRef .tc main_v58) : FVec Ideal S8x1152x2560 .bf16) (ix3 b i n)
    = (∑ k : Fin 7168, (zbR U (X b i) k : EReal) * wval (F := Ideal) (m ((c.tc : Thread nD τ).loc main_arg2)) (m ((c.tc : Thread nD τ).loc main_arg4)) (m ((c.tc : Thread nD τ).loc main_arg3)) (ix2 k n) : EReal) := by
  have e : (fin m c (Proc.devRef .tc main_v58) : FVec Ideal S8x1152x2560 .bf16) = _ := (fin_eq m c _).trans (post_v58 _)
  refine (congrFun e _).trans ((yT_apply _ _ b i n).trans ?_)
  refine Finset.sum_congr rfl fun k _ => congrArg₂ (fun a b : EReal => a * b) (zb_mid m c U hU X hX b i k) ?_
  rw [wT_apply, mid_arg m c main_arg2 (by decide) (by decide), mid_arg m c main_arg3 (by decide) (by decide), mid_arg m c main_arg4 (by decide) (by decide)]

end Values

end Cert.Proof.Hra.Reference
end
-- ==== Proof.Usable.lean ====
/-
What the precondition says over the ideal numbers: the rows of `x` are real, and so are the unit rows of `u` — a row of
`u` with an infinite entry has the unit row zero.
-/
module
public import proofs.«01_k».proof.Defs
public import proofs.«01_k».proof.Proof.PrepIdeal
public import Idealize.ShloMosaic.Lib.ReduceAll
@[expose] public section
set_option maxRecDepth 16384
noncomputable section
namespace Cert.Proof.Hra
open Idealize.ShloMosaic Idealize.ShloMosaic.TcCoe Idealize.ShloMosaic.Tactic
open Cert.Pre_usable

/-- The shape relations the precondition states. -/
theorem usableFacts : Cert.Pre_usable.Facts where
  bcast_S_S8x1152x7168 := by decide
  reducesTo_S8x1152x7168_S_d0_1_2 := by decide
  h_S_ := by decide
  bcast_S_S32x7168 := by decide
  reducesTo_S32x7168_S32_d1 := by decide
  reducesTo_S32_S_d0 := by decide

/-- A fold of bits by «or» that is 1 met a 1. -/
theorem fold_or {ι : Type} [DecidableEq ι] (s : Finset ι) (p : ι → BitVec 1) : Finset.fold IntOp.ori (0#1) p s = 1#1 → ∃ x ∈ s, p x = 1#1 := by
  induction s using Finset.induction_on with
  | empty => intro h; rw [Finset.fold_empty] at h; exact absurd h (by decide)
  | insert a s ha ih =>
    intro h
    rw [Finset.fold_insert ha] at h
    rcases BitVec.eq_zero_or_eq_one (p a) with e | e
    · rw [e] at h
      obtain ⟨x, hx, hp⟩ := ih (by simpa [IntOp.ori] using h)
      exact ⟨x, Finset.mem_insert_of_mem hx, hp⟩
    · exact ⟨a, Finset.mem_insert_self .., e⟩

/-- A number whose magnitude is below infinity is real. -/
theorem real_of_abs_lt (x : EReal) (h : max x (-x) < ⊤) : ∃ r : ℝ, x = r := by
  induction x with
  | bot => simp at h
  | top => simp at h
  | coe r => exact ⟨r, rfl⟩

variable [Cert.Pre_usable.Facts] (x : FVec Ideal S8x1152x7168 .bf16) (u : FVec Ideal S32x7168 .f32) (a2 : IVec S3584x2560 8) (a3 : FVec Ideal S56x2560 .bf16) (a4 : IVec S56x2560 8)

/-- The word of infinity. -/
theorem inf_bf16 : Ideal.ofBits FTy.bf16 32640#16 = ⊤ := by
  simp [Ideal.ofBits, Ideal.ieee]

omit [Cert.Pre_usable.Facts] in
/-- What a 1 of the comparison «less» says. -/
theorem of_cmp_lt (a b : EReal) (h : Ideal.cmp .olt a b = 1#1) : a < b := by
  unfold Ideal.cmp at h
  by_contra hn
  simp [hn] at h

omit [Cert.Pre_usable.Facts] in
/-- What a 1 of the comparison «not equal» says. -/
theorem of_cmp_ne (a b : EReal) (h : Ideal.cmp .une a b = 1#1) : a ≠ b := by
  unfold Ideal.cmp at h
  intro hn
  simp [hn] at h

/-- A row that has an entry other than zero. -/
theorem row_ne (h1 : S_.BroadcastsInDim S32x7168 (![] : Fin 0 → Fin S32x7168.rank)) (h2 : S32x7168.ReducesTo [1] S32) (h3 : 0 < S_.numel) (r : Fin 32)
    (h : Host.reduce IntOp.ori (cmpf .une u (broadcastInDim S32x7168 ![] h1 (constant S_ FTy.f32 0#32))) (constantI S_ 1 0#1) h2 h3 (ix1 r) = 1#1) :
    ∃ k : Fin 7168, u (ix2 r k) ≠ 0 := by
  pointwise [] at h
  obtain ⟨k, _, hk⟩ := fold_or _ _ h
  exact ⟨k, of_cmp_ne _ _ hk⟩

/-- The precondition, read back. -/
theorem usable_spec (h : Cert.Pre_usable.fn (F := Ideal) x u a2 a3 a4 = (fun _ => 1#1)) :
    (∀ i, ∃ r : ℝ, x i = (r : EReal)) ∧ ∀ r : Fin 32, ∃ k : Fin 7168, u (ix2 r k) ≠ 0 := by
  have h0 := congrFun h (fun a => a.elim0)
  unfold Cert.Pre_usable.fn at h0
  dsimp only at h0
  obtain ⟨h1, h3⟩ := IntOp.andi_eq_one.1 h0
  have : Subsingleton S_.Idx := ⟨fun a b => funext fun i => i.elim0⟩
  refine ⟨fun i => ?_, fun r => ?_⟩
  · have h := Host.reduce_andi_all _ _ _ _ _ h1 i
    refine real_of_abs_lt _ ?_
    rw [← inf_bf16]
    exact of_cmp_lt _ _ h
  · exact row_ne u _ _ _ r (Host.reduce_andi_all _ _ _ _ _ h3 (ix1 r))

omit [Cert.Pre_usable.Facts] in
/-- A square is not negative. -/
theorem sq_nonneg' (a : EReal) : 0 ≤ a * a := by
  rcases le_total 0 a with h | h
  · exact mul_nonneg h h
  · rw [← neg_mul_neg]
    exact mul_nonneg (EReal.neg_nonneg.mpr h) (EReal.neg_nonneg.mpr h)

omit [Cert.Pre_usable.Facts] in
/-- A number that is not real has an infinite square. -/
theorem sq_top (a : EReal) (h : ¬ ∃ v : ℝ, a = (v : EReal)) : a * a = ⊤ := by
  induction a with
  | bot => exact EReal.bot_mul_bot
  | top => exact EReal.top_mul_top
  | coe v => exact absurd ⟨v, rfl⟩ h

omit [Cert.Pre_usable.Facts] in
/-- A row with an infinite entry has the unit row zero. -/
theorem unit_zero (r : Fin 32) (j : Fin 7168) (h : ¬ ∃ v : ℝ, u (ix2 r j) = (v : EReal)) (k : Fin 7168) : uhf u r k = 0 := by
  have hs : ∑ x : Fin 7168, u (ix2 r x) * u (ix2 r x) = ⊤ := by
    refine top_le_iff.mp ?_
    rw [← sq_top _ h]
    exact Finset.single_le_sum (f := fun x : Fin 7168 => u (ix2 r x) * u (ix2 r x)) (fun x _ => sq_nonneg' _) (Finset.mem_univ j)
  unfold uhf
  rw [hs]
  show Ideal.div _ ⊤ = 0
  unfold Ideal.div
  rw [if_neg EReal.top_ne_zero, EReal.inv_top, mul_zero]

omit [Cert.Pre_usable.Facts] in
/-- A row of real entries, not all of them zero, has a real unit row. -/
theorem unit_coe (r : Fin 32) (v : Fin 7168 → ℝ) (hv : ∀ k, u (ix2 r k) = (v k : EReal)) (hn : ∃ k : Fin 7168, u (ix2 r k) ≠ 0) (k : Fin 7168) :
    uhf u r k = ((v k * (Real.sqrt (∑ j, v j * v j))⁻¹ : ℝ) : EReal) := by
  have hpos : 0 < ∑ j, v j * v j := by
    obtain ⟨k, hk⟩ := hn
    refine Finset.sum_pos' (fun j _ => mul_self_nonneg _) ⟨k, Finset.mem_univ _, mul_self_pos.mpr fun e => hk ?_⟩
    rw [hv, e]
    rfl
  unfold uhf
  simp only [hv, ← EReal.coe_mul, ← coe_sum]
  have hs : Ideal.sqrt ((∑ j, v j * v j : ℝ) : EReal) = ((Real.sqrt (∑ j, v j * v j) : ℝ) : EReal) := if_neg (not_lt.mpr hpos.le)
  rw [hs]
  have hne : ((Real.sqrt (∑ j, v j * v j) : ℝ) : EReal) ≠ 0 := fun e => (Real.sqrt_pos.mpr hpos).ne' (EReal.coe_eq_zero.mp e)
  unfold Ideal.div
  rw [if_neg hne, ← EReal.coe_inv, ← EReal.coe_mul]

omit [Cert.Pre_usable.Facts] in
/-- The unit rows are real where no row is zero. -/
theorem unit_real (hn : ∀ r : Fin 32, ∃ k : Fin 7168, u (ix2 r k) ≠ 0) : ∃ U : Fin 32 → Fin 7168 → ℝ, ∀ r k, uhf u r k = (U r k : EReal) := by
  have h : ∀ r k, ∃ v : ℝ, uhf u r k = (v : EReal) := fun r k => by
    by_cases hr : ∀ j, ∃ v : ℝ, u (ix2 r j) = (v : EReal)
    · choose v hv using hr
      exact ⟨_, unit_coe u r v hv (hn r) k⟩
    · obtain ⟨j, hj⟩ := not_forall.mp hr
      exact ⟨0, unit_zero u r j hj k⟩
  choose U hU using h
  exact ⟨U, hU⟩

end Cert.Proof.Hra
end
-- ==== Proof.Algebraic.lean ====
/-
The kernel and the reference return the same two arrays over the ideal numbers, wherever `x` is finite and no row of `u`
is zero.
-/
module
public import proofs.«01_k».proof.Proof.KernelValue
public import proofs.«01_k».proof.Proof.RefIdeal
public import proofs.«01_k».proof.Proof.Usable
@[expose] public section
set_option maxRecDepth 16384
noncomputable section
namespace Cert.Proof.Hra
open Idealize.ShloMosaic Idealize.ShloMosaic.TcCoe Idealize.ShloMosaic.Tactic Idealize.SL.Sem

/-- Two arrays of three axes that agree at every triple of coordinates. -/
theorem ext3 {a b d : ℕ} (f g : (⟨3, ![a, b, d]⟩ : Shape).Idx → EReal) (h : ∀ i j k, f (ix3 i j k) = g (ix3 i j k)) : f = g := by
  funext y
  have e : y = ix3 (y 0) (y 1) (y 2) := by funext i; fin_cases i <;> rfl
  exact (congrArg f e).trans ((h (y 0) (y 1) (y 2)).trans (congrArg g e).symm)

variable (m : (ℓ : Loc Cert.KernelIdeal.nD Cert.KernelIdeal.τ Cert.KernelIdeal.sig) → Buf (Elt Ideal) ℓ) (g : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
  (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
  (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
  (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
  (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))

/-- The precondition's real rows, on one device. -/
theorem reals (hp : @Cert.Pre_KernelIdeal_usable usableFacts m) :
    ∃ (U : Fin 32 → Fin 7168 → ℝ) (X : Fin 8 → Fin 1152 → Fin 7168 → ℝ),
      (∀ r k, uhf (m ((c.tc : Thread Cert.KernelIdeal.nD Cert.KernelIdeal.τ).loc Cert.KernelIdeal.main_arg1)) r k = (U r k : EReal))
      ∧ ∀ b i k, (m ((c.tc : Thread Cert.KernelIdeal.nD Cert.KernelIdeal.τ).loc Cert.KernelIdeal.main_arg0) : FVec Ideal Cert.KernelIdeal.S8x1152x7168 .bf16) (ix3 b i k) = (X b i k : EReal) := by
  have := usableFacts
  obtain ⟨hx, hn⟩ := usable_spec _ _ _ _ _ (hp c)
  obtain ⟨U, hU⟩ := unit_real _ hn
  choose v hv using hx
  exact ⟨U, fun b i k => v (ix3 b i k), hU, fun b i k => hv _⟩

include h0 h1 in
/-- The projected rows agree. -/
theorem zb_agree (hp : @Cert.Pre_KernelIdeal_usable usableFacts m) :
    (Reference.fin m' c (Proc.devRef .tc Cert.ReferenceIdeal.main_v25) : FVec Ideal Cert.KernelIdeal.S8x1152x7168 .bf16)
      = (W4 m g c (Proc.devRef .tc Cert.KernelIdeal.main_v4) : FVec Ideal Cert.KernelIdeal.S8x1152x7168 .bf16) := by
  obtain ⟨U, X, hU, hX⟩ := reals m c hp
  refine ext3 (a := 8) (b := 1152) (d := 7168) _ _ fun b i k => ?_
  exact (Reference.fin_zb m' c U (fun r k => by rw [h1]; exact hU r k) X (fun b i k => by rw [h0]; exact hX b i k) b i k).trans
    (kernel_zb m g c U hU X hX b i k).symm

include h0 h1 h2 h3 h4 in
/-- The products agree. -/
theorem y_agree (hp : @Cert.Pre_KernelIdeal_usable usableFacts m) :
    (Reference.fin m' c (Proc.devRef .tc Cert.ReferenceIdeal.main_v58) : FVec Ideal Cert.KernelIdeal.S8x1152x2560 .bf16)
      = (W4 m g c (Proc.devRef .tc Cert.KernelIdeal.main_v3) : FVec Ideal Cert.KernelIdeal.S8x1152x2560 .bf16) := by
  obtain ⟨U, X, hU, hX⟩ := reals m c hp
  refine ext3 (a := 8) (b := 1152) (d := 2560) _ _ fun b i n => ?_
  refine (Reference.fin_y m' c U (fun r k => by rw [h1]; exact hU r k) X (fun b i k => by rw [h0]; exact hX b i k) b i n).trans
    (Eq.trans ?_ (kernel_y m g c U hU X hX b i n).symm)
  rw [h2, h3, h4]

/-- The kernel and the reference return the same. -/
theorem algebraic : @Cert.algebraic_KernelIdeal_ReferenceIdeal_pre_usable Cert.KernelIdeal.Gen.facts Cert.ReferenceIdeal.Gen.facts usableFacts := by
  intro m g m' g' hp ha
  refine ⟨fun c => W4 m g c (Proc.devRef .tc Cert.KernelIdeal.main_v3), fun c => W4 m g c (Proc.devRef .tc Cert.KernelIdeal.main_v4), ?_, ?_⟩
  · exact (θ_run _ _ _).mono (fun _ h c =>
      ⟨h.1 c _ (mem_uc Cert.KernelIdeal.main_v3 (by decide)), h.1 c _ (mem_uc Cert.KernelIdeal.main_v4 (by decide)),
       (h.1 c _ (mem_uc Cert.KernelIdeal.main_arg0 (by decide))).trans (W4_main_arg0 m g c),
       (h.1 c _ (mem_uc Cert.KernelIdeal.main_arg1 (by decide))).trans (W4_main_arg1 m g c),
       (h.1 c _ (mem_uc Cert.KernelIdeal.main_arg2 (by decide))).trans (W4_main_arg2 m g c),
       (h.1 c _ (mem_uc Cert.KernelIdeal.main_arg3 (by decide))).trans (W4_main_arg3 m g c),
       (h.1 c _ (mem_uc Cert.KernelIdeal.main_arg4 (by decide))).trans (W4_main_arg4 m g c)⟩) (run m g)
  · exact (θ_run _ _ _).mono (fun _ h c =>
      ⟨(h.1 c Cert.ReferenceIdeal.main_v58 rfl).trans (y_agree m g m' c (ha c).1 (ha c).2.1 (ha c).2.2.1 (ha c).2.2.2.1 (ha c).2.2.2.2 hp),
       (h.1 c Cert.ReferenceIdeal.main_v25 rfl).trans (zb_agree m g m' c (ha c).1 (ha c).2.1 hp),
       (h.1 c Cert.ReferenceIdeal.main_arg0 rfl).trans (Reference.fin_keep m' c _ (by decide) (by decide) (by decide)),
       (h.1 c Cert.ReferenceIdeal.main_arg1 rfl).trans (Reference.fin_keep m' c _ (by decide) (by decide) (by decide)),
       (h.1 c Cert.ReferenceIdeal.main_arg2 rfl).trans (Reference.fin_keep m' c _ (by decide) (by decide) (by decide)),
       (h.1 c Cert.ReferenceIdeal.main_arg3 rfl).trans (Reference.fin_keep m' c _ (by decide) (by decide) (by decide)),
       (h.1 c Cert.ReferenceIdeal.main_arg4 rfl).trans (Reference.fin_keep m' c _ (by decide) (by decide) (by decide))⟩) (Reference.run m' g')

end Cert.Proof.Hra
end
-- ==== Proof.lean ====
/-
The proof of the claims: the frames of the three programs, that the kernel and its idealization are the same program,
and that the kernel and the reference return the same arrays over the ideal numbers.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.RefFrame
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Hra.usableFacts,
  Hra.frame_Kernel, Hra.frame_KernelIdeal, fun m g _ => Hra.frame_KernelIdeal m g trivial,
  Hra.Reference.frame_ReferenceIdeal, fun m g _ => Hra.Reference.frame_ReferenceIdeal m g trivial, trivial, Hra.algebraic⟩

end Cert.Proof

end

end
